-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4)
      ∧ r.2.mem ((c.tc : Thread Cert.Glu.nD Cert.Glu.τ).loc Cert.Glu.main_arg5) = m ((c.tc : Thread Cert.Glu.nD Cert.Glu.τ).loc Cert.Glu.main_arg5))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
      ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4)
      ∧ r.2.mem ((c.tc : Thread Cert.GluRefIdeal.nD Cert.GluRefIdeal.τ).loc Cert.GluRefIdeal.main_arg5) = m ((c.tc : Thread Cert.GluRefIdeal.nD Cert.GluRefIdeal.τ).loc Cert.GluRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v18)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v18) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v20) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)
      ∧ m' ((c.tc : Thread Cert.GluRefIdeal.nD Cert.GluRefIdeal.τ).loc Cert.GluRefIdeal.main_arg5) = m ((c.tc : Thread Cert.GluIdeal.nD Cert.GluIdeal.τ).loc Cert.GluIdeal.main_arg5)) →
    ∃ (v0 : (c : Dev Cert.GluIdeal.nD) → Buf (Elt Ideal) ((c.tc : Thread Cert.GluIdeal.nD Cert.GluIdeal.τ).loc Cert.GluIdeal.main_v21_0)) (v1 : (c : Dev Cert.GluIdeal.nD) → Buf (Elt Ideal) ((c.tc : Thread Cert.GluIdeal.nD Cert.GluIdeal.τ).loc Cert.GluIdeal.main_v21_1)) (v2 : (c : Dev Cert.GluIdeal.nD) → Buf (Elt Ideal) ((c.tc : Thread Cert.GluIdeal.nD Cert.GluIdeal.τ).loc Cert.GluIdeal.main_v21_2)) (v3 : (c : Dev Cert.GluIdeal.nD) → Buf (Elt Ideal) ((c.tc : Thread Cert.GluIdeal.nD Cert.GluIdeal.τ).loc Cert.GluIdeal.main_v21_3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v21_0) = v0 c
          ∧ r.2.mem ((c.tc : Thread Cert.GluIdeal.nD Cert.GluIdeal.τ).loc Cert.GluIdeal.main_v21_1) = v1 c
          ∧ r.2.mem ((c.tc : Thread Cert.GluIdeal.nD Cert.GluIdeal.τ).loc Cert.GluIdeal.main_v21_2) = v2 c
          ∧ r.2.mem ((c.tc : Thread Cert.GluIdeal.nD Cert.GluIdeal.τ).loc Cert.GluIdeal.main_v21_3) = v3 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
          ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v23) = v0 c
          ∧ r.2.mem ((c.tc : Thread Cert.GluRefIdeal.nD Cert.GluRefIdeal.τ).loc Cert.GluRefIdeal.main_v24) = v1 c
          ∧ r.2.mem ((c.tc : Thread Cert.GluRefIdeal.nD Cert.GluRefIdeal.τ).loc Cert.GluRefIdeal.main_v25) = v2 c
          ∧ r.2.mem ((c.tc : Thread Cert.GluRefIdeal.nD Cert.GluRefIdeal.τ).loc Cert.GluRefIdeal.main_v26) = v3 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4)
          ∧ r.2.mem ((c.tc : Thread Cert.GluRefIdeal.nD Cert.GluRefIdeal.τ).loc Cert.GluRefIdeal.main_arg5) = m' ((c.tc : Thread Cert.GluRefIdeal.nD Cert.GluRefIdeal.τ).loc Cert.GluRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v34)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v34) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v48) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hGlu : Cert.Glu.Facts) (hGluIdeal : Cert.GluIdeal.Facts) (hGluRefIdeal : Cert.GluRefIdeal.Facts) (hMerge : Cert.Merge.Facts) (hMergeIdeal : Cert.MergeIdeal.Facts) (hMergeRefIdeal : Cert.MergeRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjRefIdeal (hInProjRefIdeal := hInProjRefIdeal)
    ∧ quiescent_Glu (hGlu := hGlu)
    ∧ quiescent_GluIdeal (hGluIdeal := hGluIdeal)
    ∧ quiescent_GluRefIdeal (hGluRefIdeal := hGluRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjRefIdeal (hInProjIdeal := hInProjIdeal) (hInProjRefIdeal := hInProjRefIdeal)
    ∧ preserves_Glu_GluIdeal
    ∧ algebraic_GluIdeal_GluRefIdeal (hGluIdeal := hGluIdeal) (hGluRefIdeal := hGluRefIdeal)
    ∧ preserves_Merge_MergeIdeal
    ∧ algebraic_MergeIdeal_MergeRefIdeal (hMergeIdeal := hMergeIdeal) (hMergeRefIdeal := hMergeRefIdeal)
-- ==== Pre_finite_scores.lean ====
abbrev S4x8192x8704 : Shape := ⟨3, ![4, 8192, 8704]⟩
abbrev S16 : Shape := ⟨1, ![16]⟩
abbrev S32x16 : Shape := ⟨2, ![32, 16]⟩
abbrev S1024x2048 : Shape := ⟨2, ![1024, 2048]⟩
abbrev S4x8192x1280 : Shape := ⟨3, ![4, 8192, 1280]⟩
abbrev S_ : Shape := ⟨0, ![]⟩

class Facts : Prop where
  slices_S4x8192x8704_S4x8192x1280_0_0_2048 : S4x8192x8704.Slices ![0, 0, 2048] S4x8192x1280
  bcast_S_S4x8192x1280 : S_.BroadcastsInDim S4x8192x1280 (![] : Fin 0 → Fin S4x8192x1280.rank)
  bcast_S_S16 : S_.BroadcastsInDim S16 (![] : Fin 0 → Fin S16.rank)
  bcast_S_S32x16 : S_.BroadcastsInDim S32x16 (![] : Fin 0 → Fin S32x16.rank)

variable [Facts]

def fn {F : FTy → Type} [FloatOps F] (main_arg0 : FVec F S4x8192x8704 .f32) (main_arg1 : FVec F S16 .f32) (main_arg2 : FVec F S32x16 .f32) (main_arg3 : FVec F S1024x2048 .f32) : IVec S4x8192x1280 1 × IVec S16 1 × IVec S32x16 1 :=
  let main_v0 : FVec F S4x8192x1280 .f32 := (extractStridedSlice S4x8192x1280 ![0, 0, 2048] · slices_S4x8192x8704_S4x8192x1280_0_0_2048) main_arg0
  let main_v1 : FVec F S4x8192x1280 .f32 := Host.absf main_v0
  let main_cst : FVec F S_ .f32 := constant S_ .f32 0x7F800000#32
  let main_v2 : FVec F S4x8192x1280 .f32 := broadcastInDim S4x8192x1280 ![] bcast_S_S4x8192x1280 main_cst
  let main_v3 : IVec S4x8192x1280 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_v7 : FVec F S32x16 .f32 := Host.absf main_arg2
  let main_cst_1 : FVec F S_ .f32 := constant S_ .f32 0x7F800000#32
  let main_v8 : FVec F S32x16 .f32 := broadcastInDim S32x16 ![] bcast_S_S32x16 main_cst_1
  let main_v9 : IVec S32x16 1 := cmpf .olt main_v7 main_v8
  (main_v3, main_v6, main_v9)
-- ==== Kernel.lean ====
abbrev S4x8192x8704 : Shape := ⟨3, ![4, 8192, 8704]⟩
abbrev S16 : Shape := ⟨1, ![16]⟩
abbrev S32x16 : Shape := ⟨2, ![32, 16]⟩
abbrev S1024x2048 : Shape := ⟨2, ![1024, 2048]⟩
abbrev S128x256 : Shape := ⟨2, ![128, 256]⟩
abbrev S32768x8704 : Shape := ⟨2, ![32768, 8704]⟩
abbrev S_ : Shape := ⟨0, ![]⟩
abbrev S32768x2048 : Shape := ⟨2, ![32768, 2048]⟩
abbrev S32768x1024 : Shape := ⟨2, ![32768, 1024]⟩
abbrev S32768x512 : Shape := ⟨2, ![32768, 512]⟩
abbrev S32768x4096 : Shape := ⟨2, ![32768, 4096]⟩
abbrev S32768x2x2x4x64 : Shape := ⟨5, ![32768, 2, 2, 4, 64]⟩
abbrev S32768x2x4x2x64 : Shape := ⟨5, ![32768, 2, 4, 2, 64]⟩
abbrev S1024x1024 : Shape := ⟨2, ![1024, 1024]⟩
abbrev S1024x512 : Shape := ⟨2, ![1024, 512]⟩
abbrev S128x512 : Shape := ⟨2, ![128, 512]⟩
abbrev S128x2048 : Shape := ⟨2, ![128, 2048]⟩
abbrev S2x2x512x256 : Shape := ⟨4, ![2, 2, 512, 256]⟩
abbrev S128x128 : Shape := ⟨2, ![128, 128]⟩
abbrev S1x1 : Shape := ⟨2, ![1, 1]⟩
abbrev S1x1x128x128 : Shape := ⟨4, ![1, 1, 128, 128]⟩
abbrev S256x128 : Shape := ⟨2, ![256, 128]⟩
abbrev S512x128 : Shape := ⟨2, ![512, 128]⟩
abbrev S256x512 : Shape := ⟨2, ![256, 512]⟩
abbrev S512x256 : Shape := ⟨2, ![512, 256]⟩
abbrev S512x512 : Shape := ⟨2, ![512, 512]⟩
abbrev S1 : Shape := ⟨1, ![1]⟩
abbrev S128 : Shape := ⟨1, ![128]⟩
abbrev S128x1 : Shape := ⟨2, ![128, 1]⟩

abbrev nBuf : Space → Nat
  | .hbm => 27
  | .vmem => 16
  | .smem => 2
  | _ => 0

abbrev bufTy : (tb : Table) → Fin (tcTables nBuf tb) → BufTy
  | .hbm, ⟨0, _⟩ => ⟨S4x8192x8704, .f32⟩
  | .hbm, ⟨1, _⟩ => ⟨S16, .f32⟩
  | .hbm, ⟨2, _⟩ => ⟨S32x16, .f32⟩
  | .hbm, ⟨3, _⟩ => ⟨S1024x2048, .f32⟩
  | .hbm, ⟨4, _⟩ => ⟨S128x256, .i32⟩
  | .hbm, ⟨5, _⟩ => ⟨S32768x8704, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32768x2048, .f32⟩
  | .hbm, ⟨11, _⟩ => ⟨S32768x1024, .f32⟩
  | .hbm, ⟨12, _⟩ => ⟨S32768x512, .f32⟩
  | .hbm, ⟨13, _⟩ => ⟨S32768x1024, .f32⟩
  | .hbm, ⟨14, _⟩ => ⟨S32768x4096, .f32⟩
  | .hbm, ⟨15, _⟩ => ⟨S32768x1024, .f32⟩
  | .hbm, ⟨16, _⟩ => ⟨S32768x1024, .f32⟩
  | .hbm, ⟨17, _⟩ => ⟨S32768x2x2x4x64, .f32⟩
  | .hbm, ⟨18, _⟩ => ⟨S32768x2x4x2x64, .f32⟩
  | .hbm, ⟨19, _⟩ => ⟨S32768x1024, .f32⟩
  | .hbm, ⟨20, _⟩ => ⟨S32768x2x2x4x64, .f32⟩
  | .hbm, ⟨21, _⟩ => ⟨S32768x2x4x2x64, .f32⟩
  | .hbm, ⟨22, _⟩ => ⟨S32768x1024, .f32⟩
  | .hbm, ⟨23, _⟩ => ⟨S32768x8704, .f32⟩
  | .hbm, ⟨24, _⟩ => ⟨S32768x8704, .bf16⟩
  | .hbm, ⟨25, _⟩ => ⟨S32768x1024, .bf16⟩
  | .hbm, ⟨26, _⟩ => ⟨S1024x2048, .bf16⟩
  | .local _ .vmem, ⟨0, _⟩ => ⟨S128x256, .i32⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x512, .bf16⟩
  | .local _ .vmem, ⟨7, _⟩ => ⟨S128x512, .bf16⟩
  | .local _ .vmem, ⟨8, _⟩ => ⟨S128x512, .bf16⟩
  | .local _ .vmem, ⟨9, _⟩ => ⟨S128x2048, .f32⟩
  | .local _ .vmem, ⟨10, _⟩ => ⟨S128x2048, .f32⟩
  | .local _ .vmem, ⟨11, _⟩ => ⟨S1024x1024, .bf16⟩
  | .local _ .vmem, ⟨12, _⟩ => ⟨S1024x1024, .bf16⟩
  | .local _ .vmem, ⟨13, _⟩ => ⟨S128x2048, .bf16⟩
  | .local _ .vmem, ⟨14, _⟩ => ⟨S128x2048, .bf16⟩
  | .local _ .vmem, ⟨15, _⟩ => ⟨S2x2x512x256, .f32⟩
  | .local _ .smem, ⟨0, _⟩ => ⟨S32x16, .f32⟩
  | .local _ .smem, ⟨1, _⟩ => ⟨S16, .f32⟩
  | _, _ => ⟨S4x8192x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 8], ![false, false]⟩

def k0_off1 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v61 : Index := Scalar.indexCast v36
  let c0_22 : Index := 0#32
  let c0_23 : Index := 0#32
  let c0_24 : Index := 0#32
  ![v61.toNat, 0, 0, 0]
def k0_off2 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v82 : Index := Scalar.indexCast v36
  let c0_27 : Index := 0#32
  let c0_28 : Index := 0#32
  let c128_29 : Index := 128#32
  ![v82.toNat, 0, 0, 128]
def k0_off3 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v110 : Index := Scalar.indexCast v36
  let c0_32 : Index := 0#32
  let c128_33 : Index := 128#32
  let c0_34 : Index := 0#32
  ![v110.toNat, 0, 128, 0]
def k0_off4 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v131 : Index := Scalar.indexCast v36
  let c0_37 : Index := 0#32
  let c128_38 : Index := 128#32
  let c128_39 : Index := 128#32
  ![v131.toNat, 0, 128, 128]
def k0_off5 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v159 : Index := Scalar.indexCast v36
  let c0_42 : Index := 0#32
  let c256_43 : Index := 256#32
  let c0_44 : Index := 0#32
  ![v159.toNat, 0, 256, 0]
def k0_off6 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v180 : Index := Scalar.indexCast v36
  let c0_47 : Index := 0#32
  let c256_48 : Index := 256#32
  let c128_49 : Index := 128#32
  ![v180.toNat, 0, 256, 128]
def k0_off7 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v208 : Index := Scalar.indexCast v36
  let c0_52 : Index := 0#32
  let c384_53 : Index := 384#32
  let c0_54 : Index := 0#32
  ![v208.toNat, 0, 384, 0]
def k0_off8 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v229 : Index := Scalar.indexCast v36
  let c0_57 : Index := 0#32
  let c384_58 : Index := 384#32
  let c128_59 : Index := 128#32
  ![v229.toNat, 0, 384, 128]
def k0_off9 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v343 : Index := Scalar.indexCast v36
  let c1_96 : Index := 1#32
  let c0_97 : Index := 0#32
  let c0_98 : Index := 0#32
  ![v343.toNat, 1, 0, 0]
def k0_off10 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v364 : Index := Scalar.indexCast v36
  let c1_101 : Index := 1#32
  let c0_102 : Index := 0#32
  let c128_103 : Index := 128#32
  ![v364.toNat, 1, 0, 128]
def k0_off11 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v392 : Index := Scalar.indexCast v36
  let c1_106 : Index := 1#32
  let c128_107 : Index := 128#32
  let c0_108 : Index := 0#32
  ![v392.toNat, 1, 128, 0]
def k0_off12 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v413 : Index := Scalar.indexCast v36
  let c1_111 : Index := 1#32
  let c128_112 : Index := 128#32
  let c128_113 : Index := 128#32
  ![v413.toNat, 1, 128, 128]
def k0_off13 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v441 : Index := Scalar.indexCast v36
  let c1_116 : Index := 1#32
  let c256_117 : Index := 256#32
  let c0_118 : Index := 0#32
  ![v441.toNat, 1, 256, 0]
def k0_off14 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v462 : Index := Scalar.indexCast v36
  let c1_121 : Index := 1#32
  let c256_122 : Index := 256#32
  let c128_123 : Index := 128#32
  ![v462.toNat, 1, 256, 128]
def k0_off15 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v490 : Index := Scalar.indexCast v36
  let c1_126 : Index := 1#32
  let c384_127 : Index := 384#32
  let c0_128 : Index := 0#32
  ![v490.toNat, 1, 384, 0]
def k0_off16 (i : grid0.Coords) : Fin 4 → Nat :=
  let arg1 : BitVec 32 := BitVec.ofNat 32 (i 1).val
  let c0_i32_12 : BitVec 32 := 0#32
  let v35 : BitVec 1 := Scalar.cmpi .eq arg1 c0_i32_12
  let c0_i32_13 : BitVec 32 := 0#32
  let c1_i32 : BitVec 32 := 1#32
  let v36 : BitVec 32 := Scalar.select v35 c0_i32_13 c1_i32
  let v511 : Index := Scalar.indexCast v36
  let c1_131 : Index := 1#32
  let c384_132 : Index := 384#32
  let c128_133 : Index := 128#32
  ![v511.toNat, 1, 384, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let c0_i32 : BitVec 32 := 0#32
  ![v1.toNat, c16_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let c1_i32 : BitVec 32 := 1#32
  let v3 : BitVec 32 := Scalar.subi v2 c1_i32
  let c0_i32 : BitVec 32 := 0#32
  let v4 : BitVec 32 := Scalar.maxsi v3 c0_i32
  let c16_i32 : BitVec 32 := 16#32
  let c0_i32_1 : BitVec 32 := 0#32
  ![v4.toNat, c16_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  ![v2.toNat, c0_i32.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x8192x8704 : Shape := ⟨3, ![4, 8192, 8704]⟩
abbrev S16 : Shape := ⟨1, ![16]⟩
abbrev S32x16 : Shape := ⟨2, ![32, 16]⟩
abbrev S1024x2048 : Shape := ⟨2, ![1024, 2048]⟩
abbrev S4x8192x1024 : Shape := ⟨3, ![4, 8192, 1024]⟩
abbrev S4x8192x256 : Shape := ⟨3, ![4, 8192, 256]⟩
abbrev S4x8192x4096 : Shape := ⟨3, ![4, 8192, 4096]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S4x4x128x256 : Shape := ⟨4, ![4, 4, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S4x64x128x4x4x64 : Shape := ⟨6, ![4, 64, 128, 4, 4, 64]⟩
abbrev S4x8192x4x64 : Shape := ⟨4, ![4, 8192, 4, 64]⟩
abbrev S4x8320x4x64 : Shape := ⟨4, ![4, 8320, 4, 64]⟩
abbrev S4x65x128x4x64 : Shape := ⟨5, ![4, 65, 128, 4, 64]⟩
abbrev S4x64x128x4x64 : Shape := ⟨5, ![4, 64, 128, 4, 64]⟩
abbrev S4x64x256x4x64 : Shape := ⟨5, ![4, 64, 256, 4, 64]⟩
abbrev S4x64x4x256x128x4 : Shape := ⟨6, ![4, 64, 4, 256, 128, 4]⟩
abbrev S4x64x4x4x128x256 : Shape := ⟨6, ![4, 64, 4, 4, 128, 256]⟩
abbrev S1x1x4x4x128x256 : Shape := ⟨6, ![1, 1, 4, 4, 128, 256]⟩
abbrev S4x4 : Shape := ⟨2, ![4, 4]⟩
abbrev S1x1x4x4x1x1 : Shape := ⟨6, ![1, 1, 4, 4, 1, 1]⟩
abbrev S4x64x4x4x128 : Shape := ⟨5, ![4, 64, 4, 4, 128]⟩
abbrev S4x64x4x4x128x1 : Shape := ⟨6, ![4, 64, 4, 4, 128, 1]⟩
abbrev S4x64x4x64x4x128 : Shape := ⟨6, ![4, 64, 4, 64, 4, 128]⟩
abbrev S32768x2x2x4x64 : Shape := ⟨5, ![32768, 2, 2, 4, 64]⟩
abbrev S32768x2x4x2x64 : Shape := ⟨5, ![32768, 2, 4, 2, 64]⟩
abbrev S32768x1024 : Shape := ⟨2, ![32768, 1024]⟩

abbrev nBuf : Space → Nat
  | .hbm => 155
  | .vmem => 0
  | .smem => 0
  | _ => 0

abbrev hbmTy0_0 (i : Nat) : BufTy := match i % 128 with
  | 0 => ⟨S4x8192x8704, .f32⟩
  | 1 => ⟨S16, .f32⟩
  | 2 => ⟨S32x16, .f32⟩
  | 3 => ⟨S1024x2048, .f32⟩
  | 4 => ⟨S4x8192x1024, .f32⟩
  | 5 => ⟨S4x8192x1024, .f32⟩
  | 6 => ⟨S4x8192x1024, .f32⟩
  | 7 => ⟨S4x8192x256, .f32⟩
  | 8 => ⟨S4x8192x256, .f32⟩
  | 9 => ⟨S4x8192x1024, .f32⟩
  | 10 => ⟨S4x8192x4096, .f32⟩
  | 11 => ⟨S128, .i32⟩
  | 12 => ⟨S128x1, .i32⟩
  | 13 => ⟨S256, .i32⟩
  | 14 => ⟨S1x256, .i32⟩
  | 15 => ⟨S_, .i32⟩
  | 16 => ⟨S128x1, .i32⟩
  | 17 => ⟨S128x1, .i32⟩
  | 18 => ⟨S128x256, .i32⟩
  | 19 => ⟨S128x256, .i32⟩
  | 20 => ⟨S128x256, .i32⟩
  | 21 => ⟨S_, .i32⟩
  | 22 => ⟨S128x256, .i32⟩
  | 23 => ⟨S128x256, .i1⟩
  | 24 => ⟨S_, .i32⟩
  | 25 => ⟨S128x256, .i32⟩
  | 26 => ⟨S128x256, .i1⟩
  | 27 => ⟨S128x256, .i1⟩
  | 28 => ⟨S_, .i32⟩
  | 29 => ⟨S_, .i32⟩
  | 30 => ⟨S128x256, .i32⟩
  | 31 => ⟨S128x256, .i32⟩
  | 32 => ⟨S_, .i32⟩
  | 33 => ⟨S128x256, .i32⟩
  | 34 => ⟨S128x256, .i1⟩
  | 35 => ⟨S_, .i32⟩
  | 36 => ⟨S128x256, .i32⟩
  | 37 => ⟨S128x256, .i32⟩
  | 38 => ⟨S128x256, .f32⟩
  | 39 => ⟨S_, .f32⟩
  | 40 => ⟨S128x256, .f32⟩
  | 41 => ⟨S128x256, .f32⟩
  | 42 => ⟨S128x256, .f32⟩
  | 43 => ⟨S_, .f32⟩
  | 44 => ⟨S128x256, .f32⟩
  | 45 => ⟨S128x256, .f32⟩
  | 46 => ⟨S_, .f32⟩
  | 47 => ⟨S128x256, .f32⟩
  | 48 => ⟨S128x256, .f32⟩
  | 49 => ⟨S128x256, .i32⟩
  | 50 => ⟨S_, .i32⟩
  | 51 => ⟨S128x256, .i32⟩
  | 52 => ⟨S128x256, .i32⟩
  | 53 => ⟨S_, .i32⟩
  | 54 => ⟨S128x256, .i32⟩
  | 55 => ⟨S128x256, .i32⟩
  | 56 => ⟨S128x256, .i32⟩
  | 57 => ⟨S_, .i32⟩
  | 58 => ⟨S128x256, .i32⟩
  | 59 => ⟨S128x256, .i1⟩
  | 60 => ⟨S_, .i32⟩
  | 61 => ⟨S128x256, .i32⟩
  | 62 => ⟨S128x256, .i32⟩
  | 63 => ⟨S128x256, .i32⟩
  | 64 => ⟨S128x256x1, .i32⟩
  | 65 => ⟨S128x256x16, .f32⟩
  | 66 => ⟨S16x128x256, .f32⟩
  | 67 => ⟨S4x4x128x256, .f32⟩
  | 68 => ⟨S64, .i32⟩
  | 69 => ⟨S64x1x1, .i32⟩
  | 70 => ⟨S_, .i32⟩
  | 71 => ⟨S64x1x1, .i32⟩
  | 72 => ⟨S64x1x1, .i32⟩
  | 73 => ⟨S_, .i32⟩
  | 74 => ⟨S64x1x1, .i32⟩
  | 75 => ⟨S64x1x1, .i32⟩
  | 76 => ⟨S1x1x256, .i32⟩
  | 77 => ⟨S64x1x256, .i32⟩
  | 78 => ⟨S64x1x256, .i32⟩
  | 79 => ⟨S64x1x256, .i32⟩
  | 80 => ⟨S1x128x256, .i1⟩
  | 81 => ⟨S_, .i32⟩
  | 82 => ⟨S64x1x256, .i32⟩
  | 83 => ⟨S64x1x256, .i1⟩
  | 84 => ⟨S64x128x256, .i1⟩
  | 85 => ⟨S64x128x256, .i1⟩
  | 86 => ⟨S64x128x256, .i1⟩
  | 87 => ⟨S1x64x1x1x128x256, .i1⟩
  | 88 => ⟨S4x64x128x4x4x64, .f32⟩
  | 89 => ⟨S4x8192x4x64, .f32⟩
  | 90 => ⟨S_, .i32⟩
  | 91 => ⟨S_, .f32⟩
  | 92 => ⟨S4x8320x4x64, .f32⟩
  | 93 => ⟨S4x65x128x4x64, .f32⟩
  | 94 => ⟨S4x64x128x4x64, .f32⟩
  | 95 => ⟨S4x64x128x4x64, .f32⟩
  | 96 => ⟨S4x64x256x4x64, .f32⟩
  | 97 => ⟨S4x8192x4x64, .f32⟩
  | 98 => ⟨S_, .i32⟩
  | 99 => ⟨S_, .f32⟩
  | 100 => ⟨S4x8320x4x64, .f32⟩
  | 101 => ⟨S4x65x128x4x64, .f32⟩
  | 102 => ⟨S4x64x128x4x64, .f32⟩
  | 103 => ⟨S4x64x128x4x64, .f32⟩
  | 104 => ⟨S4x64x256x4x64, .f32⟩
  | 105 => ⟨S4x64x4x256x128x4, .f32⟩
  | 106 => ⟨S4x64x4x4x128x256, .f32⟩
  | 107 => ⟨S_, .f32⟩
  | 108 => ⟨S4x64x4x4x128x256, .f32⟩
  | 109 => ⟨S4x64x4x4x128x256, .f32⟩
  | 110 => ⟨S1x1x4x4x128x256, .f32⟩
  | 111 => ⟨S4x64x4x4x128x256, .f32⟩
  | 112 => ⟨S4x64x4x4x128x256, .f32⟩
  | 113 => ⟨S_, .f32⟩
  | 114 => ⟨S_, .f32⟩
  | 115 => ⟨S4x64x4x4x128x256, .i1⟩
  | 116 => ⟨S4x64x4x4x128x256, .f32⟩
  | 117 => ⟨S4x64x4x4x128x256, .f32⟩
  | 118 => ⟨S4x4, .f32⟩
  | 119 => ⟨S1x1x4x4x1x1, .f32⟩
  | 120 => ⟨S_, .f32⟩
  | 121 => ⟨S4x64x4x4x128, .f32⟩
  | 122 => ⟨S4x64x4x4x128x1, .f32⟩
  | 123 => ⟨S4x64x4x4x128x1, .f32⟩
  | 124 => ⟨S4x64x4x4x128x1, .f32⟩
  | 125 => ⟨S4x64x4x4x128x256, .f32⟩
  | 126 => ⟨S4x64x4x4x128x256, .f32⟩
  | 127 => ⟨S4x64x4x4x128x256, .f32⟩
  | _ => ⟨S4x8192x8704, .f32⟩

abbrev hbmTy0_1 (i : Nat) : BufTy := match i % 128 with
  | 0 => ⟨S_, .f32⟩
  | 1 => ⟨S4x64x4x4x128, .f32⟩
  | 2 => ⟨S4x64x4x4x128x1, .f32⟩
  | 3 => ⟨S4x64x4x4x128x1, .f32⟩
  | 4 => ⟨S4x64x4x4x128x1, .f32⟩
  | 5 => ⟨S4x64x4x4x128x1, .f32⟩
  | 6 => ⟨S4x64x4x4x128x1, .f32⟩
  | 7 => ⟨S4x64x4x4x128x256, .f32⟩
  | 8 => ⟨S4x64x4x4x128x256, .f32⟩
  | 9 => ⟨S4x64x4x64x4x128, .f32⟩
  | 10 => ⟨S4x64x128x4x4x64, .f32⟩
  | 11 => ⟨S4x8192x1024, .f32⟩
  | 12 => ⟨S4x8192x1024, .f32⟩
  | 13 => ⟨S4x8192x1024, .f32⟩
  | 14 => ⟨S_, .f32⟩
  | 15 => ⟨S4x8192x1024, .f32⟩
  | 16 => ⟨S4x8192x1024, .f32⟩
  | 17 => ⟨S_, .f32⟩
  | 18 => ⟨S4x8192x1024, .f32⟩
  | 19 => ⟨S4x8192x1024, .f32⟩
  | 20 => ⟨S4x8192x1024, .f32⟩
  | 21 => ⟨S4x8192x1024, .f32⟩
  | 22 => ⟨S32768x2x2x4x64, .f32⟩
  | 23 => ⟨S32768x2x4x2x64, .f32⟩
  | 24 => ⟨S32768x1024, .f32⟩
  | 25 => ⟨S32768x1024, .bf16⟩
  | 26 => ⟨S1024x2048, .bf16⟩
  | _ => ⟨S4x8192x8704, .f32⟩

abbrev hbmTy (i : Nat) : BufTy := match i / 128 with
  | 0 => hbmTy0_0 i
  | 1 => hbmTy0_1 i
  | _ => ⟨S4x8192x8704, .f32⟩

abbrev bufTy : (tb : Table) → Fin (tcTables nBuf tb) → BufTy
  | .hbm, ⟨i, _⟩ => hbmTy i
  | _, _ => ⟨S4x8192x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_call0_v0 : Ref sig .tc := ⟨.hbm, 29, rfl⟩
abbrev main_call0_v1 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_c_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_14 : Ref sig .tc := ⟨.hbm, 90, rfl⟩
abbrev main_call2_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_15 : Ref sig .tc := ⟨.hbm, 98, rfl⟩
abbrev main_call3_v0 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_19 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_call5_v0 : Ref sig .tc := ⟨.hbm, 140, rfl⟩
abbrev main_call5_v1 : Ref sig .tc := ⟨.hbm, 141, rfl⟩
abbrev main_call5_cst : Ref sig .tc := ⟨.hbm, 142, rfl⟩
abbrev main_call5_v2 : Ref sig .tc := ⟨.hbm, 143, rfl⟩
abbrev main_call5_v3 : Ref sig .tc := ⟨.hbm, 144, rfl⟩
abbrev main_call5_cst_0 : Ref sig .tc := ⟨.hbm, 145, rfl⟩
abbrev main_call5_v4 : Ref sig .tc := ⟨.hbm, 146, rfl⟩
abbrev main_call5_v5 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩

abbrev nD : Nat := 1
abbrev τ : Topo := Topo.v7x

variable {F : FTy → Type} [FloatOps F]
-- ==== InProj.lean ====
abbrev S4x8192x2048 : Shape := ⟨3, ![4, 8192, 2048]⟩
abbrev S2048x8704 : Shape := ⟨2, ![2048, 8704]⟩
abbrev S32768x2048 : Shape := ⟨2, ![32768, 2048]⟩
abbrev S_ : Shape := ⟨0, ![]⟩
abbrev S2048x2048 : Shape := ⟨2, ![2048, 2048]⟩
abbrev S2048x1024 : Shape := ⟨2, ![2048, 1024]⟩
abbrev S2048x512 : Shape := ⟨2, ![2048, 512]⟩
abbrev S2048x4096 : Shape := ⟨2, ![2048, 4096]⟩
abbrev S2048x2x2x4x64 : Shape := ⟨5, ![2048, 2, 2, 4, 64]⟩
abbrev S2048x2x4x2x64 : Shape := ⟨5, ![2048, 2, 4, 2, 64]⟩
abbrev S32768x8704 : Shape := ⟨2, ![32768, 8704]⟩
abbrev S512x2048 : Shape := ⟨2, ![512, 2048]⟩
abbrev S512x4352 : Shape := ⟨2, ![512, 4352]⟩
abbrev S2x2048x4352 : Shape := ⟨3, ![2, 2048, 4352]⟩
abbrev S2 : Shape := ⟨1, ![2]⟩
abbrev S1 : Shape := ⟨1, ![1]⟩
abbrev S1x2048x4352 : Shape := ⟨3, ![1, 2048, 4352]⟩
abbrev S2048x4352 : Shape := ⟨2, ![2048, 4352]⟩

abbrev nBuf : Space → Nat
  | .hbm => 23
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S2048x8704, .f32⟩
  | .hbm, ⟨2, _⟩ => ⟨S32768x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2048x2048, .f32⟩
  | .hbm, ⟨8, _⟩ => ⟨S2048x1024, .f32⟩
  | .hbm, ⟨9, _⟩ => ⟨S2048x512, .f32⟩
  | .hbm, ⟨10, _⟩ => ⟨S2048x1024, .f32⟩
  | .hbm, ⟨11, _⟩ => ⟨S2048x4096, .f32⟩
  | .hbm, ⟨12, _⟩ => ⟨S2048x1024, .f32⟩
  | .hbm, ⟨13, _⟩ => ⟨S2048x1024, .f32⟩
  | .hbm, ⟨14, _⟩ => ⟨S2048x2x2x4x64, .f32⟩
  | .hbm, ⟨15, _⟩ => ⟨S2048x2x4x2x64, .f32⟩
  | .hbm, ⟨16, _⟩ => ⟨S2048x1024, .f32⟩
  | .hbm, ⟨17, _⟩ => ⟨S2048x2x2x4x64, .f32⟩
  | .hbm, ⟨18, _⟩ => ⟨S2048x2x4x2x64, .f32⟩
  | .hbm, ⟨19, _⟩ => ⟨S2048x1024, .f32⟩
  | .hbm, ⟨20, _⟩ => ⟨S2048x8704, .f32⟩
  | .hbm, ⟨21, _⟩ => ⟨S2048x8704, .bf16⟩
  | .hbm, ⟨22, _⟩ => ⟨S32768x8704, .bf16⟩
  | .local _ .vmem, ⟨0, _⟩ => ⟨S512x2048, .f32⟩
  | .local _ .vmem, ⟨1, _⟩ => ⟨S512x2048, .f32⟩
  | .local _ .vmem, ⟨2, _⟩ => ⟨S512x4352, .bf16⟩
  | .local _ .vmem, ⟨3, _⟩ => ⟨S512x4352, .bf16⟩
  | .local _ .vmem, ⟨4, _⟩ => ⟨S2x2048x4352, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c1_i32_13 : BitVec 32 := 1#32
  let v27 : BitVec 32 := Scalar.addi arg0 c1_i32_13
  let c2_i32_14 : BitVec 32 := 2#32
  let v28 : BitVec 1 := Scalar.cmpi .slt v27 c2_i32_14
  let v29 : BitVec 32 := Scalar.extui v28
  let c0_i32_15 : BitVec 32 := 0#32
  let v30 : BitVec 1 := Scalar.cmpi .ne v29 c0_i32_15
  v30

def k0_off1 (i : grid0.Coords) : Fin 1 → Nat :=
  let arg0 : BitVec 32 := BitVec.ofNat 32 (i 0).val
  let c1_i32_26 : BitVec 32 := 1#32
  let v48 : BitVec 32 := Scalar.addi arg0 c1_i32_26
  let c2_i32_27 : BitVec 32 := 2#32
  let c0_i32_28 : BitVec 32 := 0#32
  let v49 : BitVec 1 := Scalar.cmpi .eq c2_i32_27 c0_i32_28
  let c1_i32_29 : BitVec 32 := 1#32
  let v50 : BitVec 32 := Scalar.select v49 c1_i32_29 c2_i32_27
  let v51 : BitVec 32 := Scalar.remsi v48 v50
  let c0_i32_31 : BitVec 32 := 0#32
  let v53 : BitVec 1 := Scalar.cmpi .slt v51 c0_i32_31
  let c0_i32_32 : BitVec 32 := 0#32
  let v54 : BitVec 1 := Scalar.cmpi .slt v50 c0_i32_32
  let v55 : BitVec 1 := Scalar.xori v53 v54
  let c0_i32_30 : BitVec 32 := 0#32
  let v52 : BitVec 1 := Scalar.cmpi .ne v51 c0_i32_30
  let v56 : BitVec 1 := Scalar.andi v55 v52
  let v57 : BitVec 32 := Scalar.addi v51 v50
  let v58 : BitVec 32 := Scalar.select v56 v57 v51
  ![v58.toNat]
def k0_off2 (i : grid0.Coords) : Fin 3 → Nat :=
  let arg0 : BitVec 32 := BitVec.ofNat 32 (i 0).val
  let c1_i32_26 : BitVec 32 := 1#32
  let v48 : BitVec 32 := Scalar.addi arg0 c1_i32_26
  let c2_i32_27 : BitVec 32 := 2#32
  let c0_i32_28 : BitVec 32 := 0#32
  let v49 : BitVec 1 := Scalar.cmpi .eq c2_i32_27 c0_i32_28
  let c1_i32_29 : BitVec 32 := 1#32
  let v50 : BitVec 32 := Scalar.select v49 c1_i32_29 c2_i32_27
  let v51 : BitVec 32 := Scalar.remsi v48 v50
  let c0_i32_31 : BitVec 32 := 0#32
  let v53 : BitVec 1 := Scalar.cmpi .slt v51 c0_i32_31
  let c0_i32_32 : BitVec 32 := 0#32
  let v54 : BitVec 1 := Scalar.cmpi .slt v50 c0_i32_32
  let v55 : BitVec 1 := Scalar.xori v53 v54
  let c0_i32_30 : BitVec 32 := 0#32
  let v52 : BitVec 1 := Scalar.cmpi .ne v51 c0_i32_30
  let v56 : BitVec 1 := Scalar.andi v55 v52
  let v57 : BitVec 32 := Scalar.addi v51 v50
  let v58 : BitVec 32 := Scalar.select v56 v57 v51
  let c0_i32_34 : BitVec 32 := 0#32
  let c0_i32_35 : BitVec 32 := 0#32
  ![v58.toNat, 0, 0]
def k0_off3 (i : grid0.Coords) : Fin 2 → Nat :=
  let c0_i32_36 : BitVec 32 := 0#32
  let arg0 : BitVec 32 := BitVec.ofNat 32 (i 0).val
  let c1_i32_25 : BitVec 32 := 1#32
  let v47 : BitVec 32 := Scalar.addi arg0 c1_i32_25
  let c4352_i32_33 : BitVec 32 := 4352#32
  let v59 : BitVec 32 := Scalar.muli v47 c4352_i32_33
  ![0, v59.toNat]
def k0_off4 (i : grid0.Coords) : Fin 1 → Nat :=
  let arg0 : BitVec 32 := BitVec.ofNat 32 (i 0).val
  let c2_i32_16 : BitVec 32 := 2#32
  let c0_i32_17 : BitVec 32 := 0#32
  let v31 : BitVec 1 := Scalar.cmpi .eq c2_i32_16 c0_i32_17
  let c1_i32_18 : BitVec 32 := 1#32
  let v32 : BitVec 32 := Scalar.select v31 c1_i32_18 c2_i32_16
  let v33 : BitVec 32 := Scalar.remsi arg0 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  ![v40.toNat]
def k0_off5 (i : grid0.Coords) : Fin 3 → Nat :=
  let arg0 : BitVec 32 := BitVec.ofNat 32 (i 0).val
  let c2_i32_16 : BitVec 32 := 2#32
  let c0_i32_17 : BitVec 32 := 0#32
  let v31 : BitVec 1 := Scalar.cmpi .eq c2_i32_16 c0_i32_17
  let c1_i32_18 : BitVec 32 := 1#32
  let v32 : BitVec 32 := Scalar.select v31 c1_i32_18 c2_i32_16
  let v33 : BitVec 32 := Scalar.remsi arg0 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c0_i32_22 : BitVec 32 := 0#32
  let c0_i32_23 : BitVec 32 := 0#32
  ![v40.toNat, 0, 0]
def k0_off6 (i : grid0.Coords) : Fin 2 → Nat :=
  let c0_i32_24 : BitVec 32 := 0#32
  let arg0 : BitVec 32 := BitVec.ofNat 32 (i 0).val
  let c4352_i32 : BitVec 32 := 4352#32
  let v41 : BitVec 32 := Scalar.muli arg0 c4352_i32
  ![0, v41.toNat]
def k0_off7 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : Index := Scalar.indexCast v20
  let c0_9 : Index := 0#32
  let c0_10 : Index := 0#32
  ![v21.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== InProjRefIdeal.lean ====
abbrev S4x8192x2048 : Shape := ⟨3, ![4, 8192, 2048]⟩
abbrev S2048x8704 : Shape := ⟨2, ![2048, 8704]⟩
abbrev S4x8192x8704 : Shape := ⟨3, ![4, 8192, 8704]⟩
abbrev S32768x8704 : Shape := ⟨2, ![32768, 8704]⟩
abbrev S32768x1024 : Shape := ⟨2, ![32768, 1024]⟩
abbrev S32768x256 : Shape := ⟨2, ![32768, 256]⟩
abbrev S32768x4096 : Shape := ⟨2, ![32768, 4096]⟩
abbrev S_ : Shape := ⟨0, ![]⟩
abbrev S32768x2x2x4x64 : Shape := ⟨5, ![32768, 2, 2, 4, 64]⟩
abbrev S32768x2x4x2x64 : Shape := ⟨5, ![32768, 2, 4, 2, 64]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x8704, .f32⟩
  | .hbm, ⟨2, _⟩ => ⟨S4x8192x8704, .f32⟩
  | .hbm, ⟨3, _⟩ => ⟨S32768x8704, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S32768x256, .f32⟩
  | .hbm, ⟨8, _⟩ => ⟨S32768x256, .f32⟩
  | .hbm, ⟨9, _⟩ => ⟨S32768x1024, .f32⟩
  | .hbm, ⟨10, _⟩ => ⟨S32768x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S32768x2x2x4x64, .f32⟩
  | .hbm, ⟨18, _⟩ => ⟨S32768x2x4x2x64, .f32⟩
  | .hbm, ⟨19, _⟩ => ⟨S32768x1024, .f32⟩
  | .hbm, ⟨20, _⟩ => ⟨S32768x2x2x4x64, .f32⟩
  | .hbm, ⟨21, _⟩ => ⟨S32768x2x4x2x64, .f32⟩
  | .hbm, ⟨22, _⟩ => ⟨S32768x1024, .f32⟩
  | .hbm, ⟨23, _⟩ => ⟨S32768x8704, .f32⟩
  | .hbm, ⟨24, _⟩ => ⟨S32768x8704, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Glu.lean ====
abbrev S4x8192x1024 : Shape := ⟨3, ![4, 8192, 1024]⟩
abbrev S4x8192x8704 : Shape := ⟨3, ![4, 8192, 8704]⟩
abbrev S1024x2048 : Shape := ⟨2, ![1024, 2048]⟩
abbrev S2048x2048 : Shape := ⟨2, ![2048, 2048]⟩
abbrev S32768x1024 : Shape := ⟨2, ![32768, 1024]⟩
abbrev S32768x8704 : Shape := ⟨2, ![32768, 8704]⟩
abbrev S_ : Shape := ⟨0, ![]⟩
abbrev S32768x2048 : Shape := ⟨2, ![32768, 2048]⟩
abbrev S32768x512 : Shape := ⟨2, ![32768, 512]⟩
abbrev S32768x4096 : Shape := ⟨2, ![32768, 4096]⟩
abbrev S32768x2x2x4x64 : Shape := ⟨5, ![32768, 2, 2, 4, 64]⟩
abbrev S32768x2x4x2x64 : Shape := ⟨5, ![32768, 2, 4, 2, 64]⟩
abbrev S1024x1024 : Shape := ⟨2, ![1024, 1024]⟩
abbrev S128x2048 : Shape := ⟨2, ![128, 2048]⟩
abbrev S64x2048 : Shape := ⟨2, ![64, 2048]⟩
abbrev S256x2048 : Shape := ⟨2, ![256, 2048]⟩
abbrev S1024x256 : Shape := ⟨2, ![1024, 256]⟩

abbrev nBuf : Space → Nat
  | .hbm => 33
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S4x8192x8704, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S2048x2048, .f32⟩
  | .hbm, ⟨6, _⟩ => ⟨S32768x1024, .f32⟩
  | .hbm, ⟨7, _⟩ => ⟨S32768x1024, .bf16⟩
  | .hbm, ⟨8, _⟩ => ⟨S32768x8704, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32768x2048, .f32⟩
  | .hbm, ⟨14, _⟩ => ⟨S32768x1024, .f32⟩
  | .hbm, ⟨15, _⟩ => ⟨S32768x512, .f32⟩
  | .hbm, ⟨16, _⟩ => ⟨S32768x1024, .f32⟩
  | .hbm, ⟨17, _⟩ => ⟨S32768x4096, .f32⟩
  | .hbm, ⟨18, _⟩ => ⟨S32768x1024, .f32⟩
  | .hbm, ⟨19, _⟩ => ⟨S32768x1024, .f32⟩
  | .hbm, ⟨20, _⟩ => ⟨S32768x2x2x4x64, .f32⟩
  | .hbm, ⟨21, _⟩ => ⟨S32768x2x4x2x64, .f32⟩
  | .hbm, ⟨22, _⟩ => ⟨S32768x1024, .f32⟩
  | .hbm, ⟨23, _⟩ => ⟨S32768x2x2x4x64, .f32⟩
  | .hbm, ⟨24, _⟩ => ⟨S32768x2x4x2x64, .f32⟩
  | .hbm, ⟨25, _⟩ => ⟨S32768x1024, .f32⟩
  | .hbm, ⟨26, _⟩ => ⟨S32768x8704, .f32⟩
  | .hbm, ⟨27, _⟩ => ⟨S32768x8704, .bf16⟩
  | .hbm, ⟨28, _⟩ => ⟨S1024x2048, .bf16⟩
  | .hbm, ⟨29, _⟩ => ⟨S32768x1024, .bf16⟩
  | .hbm, ⟨30, _⟩ => ⟨S1024x2048, .bf16⟩
  | .hbm, ⟨31, _⟩ => ⟨S1024x2048, .bf16⟩
  | .hbm, ⟨32, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S128x2048, .f32⟩
  | .local _ .vmem, ⟨6, _⟩ => ⟨S128x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S256x2048, .f32⟩
  | .local _ .vmem, ⟨12, _⟩ => ⟨S256x2048, .f32⟩
  | .local _ .vmem, ⟨13, _⟩ => ⟨S1024x1024, .bf16⟩
  | .local _ .vmem, ⟨14, _⟩ => ⟨S1024x1024, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S256x2048, .bf16⟩
  | .local _ .vmem, ⟨20, _⟩ => ⟨S256x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.muli c2_i32 v17
  let c0_i32_4 : BitVec 32 := 0#32
  let v19 : BitVec 32 := Scalar.addi v18 c0_i32_4
  let c4_i32_5 : BitVec 32 := 4#32
  let v20 : BitVec 32 := Scalar.muli v19 c4_i32_5
  let c7_i32_6 : BitVec 32 := 7#32
  let v21 : BitVec 32 := Scalar.minsi arg0 c7_i32_6
  let c4_i32_7 : BitVec 32 := 4#32
  let c0_i32_8 : BitVec 32 := 0#32
  let v22 : BitVec 1 := Scalar.cmpi .eq c4_i32_7 c0_i32_8
  let c1_i32_9 : BitVec 32 := 1#32
  let v23 : BitVec 32 := Scalar.select v22 c1_i32_9 c4_i32_7
  let v24 : BitVec 32 := Scalar.remsi v21 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v20 v31
  let c0_i32_13 : BitVec 32 := 0#32
  let c0_i32_14 : BitVec 32 := 0#32
  ![v32.toNat, c0_i32_13.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.muli c2_i32 v17
  let c1_i32_4 : BitVec 32 := 1#32
  let v19 : BitVec 32 := Scalar.addi v18 c1_i32_4
  let c4_i32_5 : BitVec 32 := 4#32
  let v20 : BitVec 32 := Scalar.muli v19 c4_i32_5
  let c7_i32_6 : BitVec 32 := 7#32
  let v21 : BitVec 32 := Scalar.minsi arg0 c7_i32_6
  let c4_i32_7 : BitVec 32 := 4#32
  let c0_i32_8 : BitVec 32 := 0#32
  let v22 : BitVec 1 := Scalar.cmpi .eq c4_i32_7 c0_i32_8
  let c1_i32_9 : BitVec 32 := 1#32
  let v23 : BitVec 32 := Scalar.select v22 c1_i32_9 c4_i32_7
  let v24 : BitVec 32 := Scalar.remsi v21 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v20 v31
  let c0_i32_13 : BitVec 32 := 0#32
  let c0_i32_14 : BitVec 32 := 0#32
  ![v32.toNat, c0_i32_13.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GluRefIdeal.lean ====
abbrev S4x8192x1024 : Shape := ⟨3, ![4, 8192, 1024]⟩
abbrev S4x8192x8704 : Shape := ⟨3, ![4, 8192, 8704]⟩
abbrev S1024x2048 : Shape := ⟨2, ![1024, 2048]⟩
abbrev S2048x2048 : Shape := ⟨2, ![2048, 2048]⟩
abbrev S4x8192x256 : Shape := ⟨3, ![4, 8192, 256]⟩
abbrev S4x8192x4096 : Shape := ⟨3, ![4, 8192, 4096]⟩
abbrev S4x8192x2048 : Shape := ⟨3, ![4, 8192, 2048]⟩
abbrev S_ : Shape := ⟨0, ![]⟩
abbrev S2x2x4x64x2048 : Shape := ⟨5, ![2, 2, 4, 64, 2048]⟩
abbrev S2x4x2x64x2048 : Shape := ⟨5, ![2, 4, 2, 64, 2048]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x8704, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S2048x2048, .f32⟩
  | .hbm, ⟨6, _⟩ => ⟨S4x8192x1024, .f32⟩
  | .hbm, ⟨7, _⟩ => ⟨S4x8192x1024, .f32⟩
  | .hbm, ⟨8, _⟩ => ⟨S4x8192x1024, .f32⟩
  | .hbm, ⟨9, _⟩ => ⟨S4x8192x256, .f32⟩
  | .hbm, ⟨10, _⟩ => ⟨S4x8192x256, .f32⟩
  | .hbm, ⟨11, _⟩ => ⟨S4x8192x1024, .f32⟩
  | .hbm, ⟨12, _⟩ => ⟨S4x8192x4096, .f32⟩
  | .hbm, ⟨13, _⟩ => ⟨S4x8192x2048, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S_, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S2x2x4x64x2048, .f32⟩
  | .hbm, ⟨36, _⟩ => ⟨S2x4x2x64x2048, .f32⟩
  | .hbm, ⟨37, _⟩ => ⟨S1024x2048, .f32⟩
  | .hbm, ⟨38, _⟩ => ⟨S32768x1024, .f32⟩
  | .hbm, ⟨39, _⟩ => ⟨S32768x1024, .bf16⟩
  | .hbm, ⟨40, _⟩ => ⟨S1024x2048, .bf16⟩
  | .hbm, ⟨41, _⟩ => ⟨S1024x2048, .bf16⟩
  | .hbm, ⟨42, _⟩ => ⟨S2048x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Merge.lean ====
abbrev S4x8192x1024 : Shape := ⟨3, ![4, 8192, 1024]⟩
abbrev S4x8192x8704 : Shape := ⟨3, ![4, 8192, 8704]⟩
abbrev S4x8192x2048 : Shape := ⟨3, ![4, 8192, 2048]⟩
abbrev S1024x2048 : Shape := ⟨2, ![1024, 2048]⟩
abbrev S2048x2048 : Shape := ⟨2, ![2048, 2048]⟩
abbrev S2048 : Shape := ⟨1, ![2048]⟩
abbrev S32768x1024 : Shape := ⟨2, ![32768, 1024]⟩
abbrev S32768x2x2x4x64 : Shape := ⟨5, ![32768, 2, 2, 4, 64]⟩
abbrev S32768x2x4x2x64 : Shape := ⟨5, ![32768, 2, 4, 2, 64]⟩
abbrev S32768x8704 : Shape := ⟨2, ![32768, 8704]⟩
abbrev S_ : Shape := ⟨0, ![]⟩
abbrev S32768x2048 : Shape := ⟨2, ![32768, 2048]⟩
abbrev S32768x512 : Shape := ⟨2, ![32768, 512]⟩
abbrev S32768x4096 : Shape := ⟨2, ![32768, 4096]⟩
abbrev S2x2x4x64x2048 : Shape := ⟨5, ![2, 2, 4, 64, 2048]⟩
abbrev S2x4x2x64x2048 : Shape := ⟨5, ![2, 4, 2, 64, 2048]⟩
abbrev S1x2048 : Shape := ⟨2, ![1, 2048]⟩
abbrev S512x1024 : Shape := ⟨2, ![512, 1024]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩
abbrev S2048x512 : Shape := ⟨2, ![2048, 512]⟩

abbrev nBuf : Space → Nat
  | .hbm => 46
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x8704, .f32⟩
  | .hbm, ⟨3, _⟩ => ⟨S4x8192x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S32768x1024, .f32⟩
  | .hbm, ⟨10, _⟩ => ⟨S32768x1024, .bf16⟩
  | .hbm, ⟨11, _⟩ => ⟨S32768x1024, .f32⟩
  | .hbm, ⟨12, _⟩ => ⟨S32768x2x2x4x64, .f32⟩
  | .hbm, ⟨13, _⟩ => ⟨S32768x2x4x2x64, .f32⟩
  | .hbm, ⟨14, _⟩ => ⟨S32768x1024, .f32⟩
  | .hbm, ⟨15, _⟩ => ⟨S32768x1024, .bf16⟩
  | .hbm, ⟨16, _⟩ => ⟨S32768x8704, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32768x2048, .f32⟩
  | .hbm, ⟨22, _⟩ => ⟨S32768x1024, .f32⟩
  | .hbm, ⟨23, _⟩ => ⟨S32768x512, .f32⟩
  | .hbm, ⟨24, _⟩ => ⟨S32768x1024, .f32⟩
  | .hbm, ⟨25, _⟩ => ⟨S32768x4096, .f32⟩
  | .hbm, ⟨26, _⟩ => ⟨S32768x1024, .f32⟩
  | .hbm, ⟨27, _⟩ => ⟨S32768x1024, .f32⟩
  | .hbm, ⟨28, _⟩ => ⟨S32768x2x2x4x64, .f32⟩
  | .hbm, ⟨29, _⟩ => ⟨S32768x2x4x2x64, .f32⟩
  | .hbm, ⟨30, _⟩ => ⟨S32768x1024, .f32⟩
  | .hbm, ⟨31, _⟩ => ⟨S32768x2x2x4x64, .f32⟩
  | .hbm, ⟨32, _⟩ => ⟨S32768x2x4x2x64, .f32⟩
  | .hbm, ⟨33, _⟩ => ⟨S32768x1024, .f32⟩
  | .hbm, ⟨34, _⟩ => ⟨S32768x8704, .f32⟩
  | .hbm, ⟨35, _⟩ => ⟨S32768x8704, .bf16⟩
  | .hbm, ⟨36, _⟩ => ⟨S32768x2048, .f32⟩
  | .hbm, ⟨37, _⟩ => ⟨S1024x2048, .bf16⟩
  | .hbm, ⟨38, _⟩ => ⟨S2x2x4x64x2048, .f32⟩
  | .hbm, ⟨39, _⟩ => ⟨S2x4x2x64x2048, .f32⟩
  | .hbm, ⟨40, _⟩ => ⟨S1024x2048, .f32⟩
  | .hbm, ⟨41, _⟩ => ⟨S1024x2048, .bf16⟩
  | .hbm, ⟨42, _⟩ => ⟨S2048x2048, .bf16⟩
  | .hbm, ⟨43, _⟩ => ⟨S1x2048, .f32⟩
  | .hbm, ⟨44, _⟩ => ⟨S1x2048, .f32⟩
  | .hbm, ⟨45, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x4096, .bf16⟩
  | .local _ .vmem, ⟨5, _⟩ => ⟨S512x4096, .bf16⟩
  | .local _ .vmem, ⟨6, _⟩ => ⟨S512x2048, .f32⟩
  | .local _ .vmem, ⟨7, _⟩ => ⟨S512x2048, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S4x8192x1024 : Shape := ⟨3, ![4, 8192, 1024]⟩
abbrev S4x8192x8704 : Shape := ⟨3, ![4, 8192, 8704]⟩
abbrev S4x8192x2048 : Shape := ⟨3, ![4, 8192, 2048]⟩
abbrev S1024x2048 : Shape := ⟨2, ![1024, 2048]⟩
abbrev S2048x2048 : Shape := ⟨2, ![2048, 2048]⟩
abbrev S2048 : Shape := ⟨1, ![2048]⟩
abbrev S4x8192x256 : Shape := ⟨3, ![4, 8192, 256]⟩
abbrev S4x8192x4096 : Shape := ⟨3, ![4, 8192, 4096]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x8704, .f32⟩
  | .hbm, ⟨3, _⟩ => ⟨S4x8192x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x256, .f32⟩
  | .hbm, ⟨13, _⟩ => ⟨S4x8192x256, .f32⟩
  | .hbm, ⟨14, _⟩ => ⟨S4x8192x1024, .f32⟩
  | .hbm, ⟨15, _⟩ => ⟨S4x8192x4096, .f32⟩
  | .hbm, ⟨16, _⟩ => ⟨S4x8192x4096, .f32⟩
  | .hbm, ⟨17, _⟩ => ⟨S4x8192x4096, .f32⟩
  | .hbm, ⟨18, _⟩ => ⟨S_, .f32⟩
  | .hbm, ⟨19, _⟩ => ⟨S4x8192x4096, .f32⟩
  | .hbm, ⟨20, _⟩ => ⟨S4x8192x4096, .f32⟩
  | .hbm, ⟨21, _⟩ => ⟨S_, .f32⟩
  | .hbm, ⟨22, _⟩ => ⟨S4x8192x4096, .f32⟩
  | .hbm, ⟨23, _⟩ => ⟨S4x8192x4096, .f32⟩
  | .hbm, ⟨24, _⟩ => ⟨S4x8192x2048, .f32⟩
  | .hbm, ⟨25, _⟩ => ⟨S4x8192x2048, .f32⟩
  | .hbm, ⟨26, _⟩ => ⟨S4x8192x2048, .f32⟩
  | .hbm, ⟨27, _⟩ => ⟨S4x8192x2048, .f32⟩
  | .hbm, ⟨28, _⟩ => ⟨S4x8192x2048, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S_, .f32⟩
  | .hbm, ⟨33, _⟩ => ⟨S4x8192x2048, .f32⟩
  | .hbm, ⟨34, _⟩ => ⟨S4x8192x2048, .f32⟩
  | .hbm, ⟨35, _⟩ => ⟨S4x8192x2048, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S4x8192x2048, .f32⟩
  | .hbm, ⟨43, _⟩ => ⟨S4x8192x2048, .f32⟩
  | .hbm, ⟨44, _⟩ => ⟨S4x8192x2048, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x2048, .f32⟩
  | .hbm, ⟨52, _⟩ => ⟨S4x8192x2048, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1, .f32⟩
  | .hbm, ⟨57, _⟩ => ⟨S4x8192x2048, .f32⟩
  | .hbm, ⟨58, _⟩ => ⟨S4x8192x2048, .f32⟩
  | .hbm, ⟨59, _⟩ => ⟨S1x1x2048, .f32⟩
  | .hbm, ⟨60, _⟩ => ⟨S4x8192x2048, .f32⟩
  | .hbm, ⟨61, _⟩ => ⟨S4x8192x2048, .f32⟩
  | .hbm, ⟨62, _⟩ => ⟨S1x1x2048, .f32⟩
  | .hbm, ⟨63, _⟩ => ⟨S4x8192x2048, .f32⟩
  | .hbm, ⟨64, _⟩ => ⟨S4x8192x2048, .f32⟩
  | .hbm, ⟨65, _⟩ => ⟨S32768x2048, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Pre.lean ====
/- The side conditions that the precondition `finite_scores` states of the shapes it cuts and broadcasts. -/
module

public import proofs.«01_k».proof.Pre_finite_scores
public import Idealize.ShloMosaic.Lib.Decide

@[expose] public section

namespace Cert.Pre_finite_scores

open Idealize.ShloMosaic

instance facts : Cert.Pre_finite_scores.Facts where
  slices_S4x8192x8704_S4x8192x1280_0_0_2048 := by decide
  bcast_S_S4x8192x1280 := by decide
  bcast_S_S16 := by decide
  bcast_S_S32x16 := by decide

end Cert.Pre_finite_scores

end
-- ==== Proof.Ext.lean ====
module

public import Idealize.ShloMosaic.PureOps
public import Idealize.ShloMosaic.Lib.IdealHost

@[expose] public section

/-! Facts about extended reals that several of the value proofs use. -/

noncomputable section

open Idealize.ShloMosaic

namespace Cert.Ext

/-- A finite non-negative factor goes through a finite sum of extended reals, infinite terms included. -/
theorem sum_mul_coe {ι : Type*} (u : Finset ι) (f : ι → EReal) {s : ℝ} (hs : 0 ≤ s) :
    (∑ i ∈ u, f i) * (s : EReal) = ∑ i ∈ u, f i * (s : EReal) := by
  classical
  induction u using Finset.induction_on with
  | empty => simp
  | insert a v ha ih =>
    rw [Finset.sum_insert ha, Finset.sum_insert ha,
      EReal.right_distrib_of_nonneg_of_ne_top (EReal.coe_nonneg.mpr hs) (EReal.coe_ne_top s), ih]

/-- The f32 pattern of one eighth. -/
theorem eighth : Ideal.ofBits .f32 0x3E000000#32 = ((1 / 8 : ℝ) : EReal) := by
  simp [Ideal.ofBits, Ideal.ieee, -EReal.coe_mul]; norm_num

/-- The f32 pattern of two. -/
theorem two : Ideal.ofBits .f32 0x40000000#32 = ((2 : ℝ) : EReal) := by
  simp [Ideal.ofBits, Ideal.ieee, -EReal.coe_mul]; norm_num

/-- The f32 pattern of one half. -/
theorem half : Ideal.ofBits .f32 0x3F000000#32 = ((1 / 2 : ℝ) : EReal) := by
  simp [Ideal.ofBits, Ideal.ieee, -EReal.coe_mul]; norm_num

/-- The queries' scale: an eighth over the natural logarithm of two, a positive real. -/
theorem query_scale : Ideal.div (Ideal.ofBits .f32 0x3E000000#32) (Ideal.log (Ideal.ofBits .f32 0x40000000#32))
    = ((1 / 8 * (1 / Real.log 2) : ℝ) : EReal) := by
  rw [eighth, two, Ideal.log_coe, if_neg (by norm_num), Ideal.div_coe (Real.log_pos (by norm_num)).ne', ← EReal.coe_mul]

theorem query_scale_nonneg : (0 : ℝ) ≤ 1 / 8 * (1 / Real.log 2) := by
  have := Real.log_pos (show (1 : ℝ) < 2 by norm_num)
  positivity

/-- The kernels' sigmoid, written with `tanh`, is the logistic function, at the infinities too. -/
theorem half_tanh (x : EReal) :
    Ideal.ofBits .f32 0x3F000000#32 + Ideal.ofBits .f32 0x3F000000#32 * Ideal.tanh (Ideal.ofBits .f32 0x3F000000#32 * x) = Ideal.logistic x := by
  rw [half]
  induction x using EReal.rec with
  | bot =>
    rw [EReal.coe_mul_bot_of_pos (by norm_num), Ideal.tanh_bot, Ideal.logistic_bot, show (-1 : EReal) = ((-1 : ℝ) : EReal) by norm_num,
      ← EReal.coe_mul, ← EReal.coe_add]
    norm_num
  | top =>
    rw [EReal.coe_mul_top_of_pos (by norm_num), Ideal.tanh_top, Ideal.logistic_top, show (1 : EReal) = ((1 : ℝ) : EReal) by norm_num,
      ← EReal.coe_mul, ← EReal.coe_add]
    norm_num
  | coe r =>
    rw [← EReal.coe_mul, Ideal.tanh_coe, Ideal.logistic_coe, ← EReal.coe_mul, ← EReal.coe_add, EReal.coe_eq_coe_iff]
    rw [Real.tanh_eq_sinh_div_cosh, Real.sinh_eq, Real.cosh_eq]
    have h1 := Real.exp_pos (1 / 2 * r)
    have h2 := Real.exp_pos (-(1 / 2 * r))
    have h3 : Real.exp (-r) = Real.exp (-(1 / 2 * r)) * Real.exp (-(1 / 2 * r)) := by rw [← Real.exp_add]; congr 1; ring
    have h4 : Real.exp (1 / 2 * r) * Real.exp (-(1 / 2 * r)) = 1 := by rw [← Real.exp_add]; simp
    rw [h3]
    have h5 : 1 + Real.exp (-(1 / 2 * r)) * Real.exp (-(1 / 2 * r)) = Real.exp (-(1 / 2 * r)) * (Real.exp (1 / 2 * r) + Real.exp (-(1 / 2 * r))) := by
      rw [mul_add, mul_comm (Real.exp (-(1 / 2 * r))) (Real.exp (1 / 2 * r)), h4]
    rw [h5]
    have h6 : (Real.exp (-(1 / 2 * r)))⁻¹ = Real.exp (1 / 2 * r) := by rw [Real.exp_neg, inv_inv]
    rw [mul_inv, h6]
    field_simp
    ring

end Cert.Ext

end
-- ==== Proof.InProj.lean ====
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.StableHlo.ReadAt
public import Idealize.ShloMosaic.Lib.Claim
public import Idealize.ShloMosaic.Lib.Pointwise
public import Idealize.ShloMosaic.Lib.ValueLayout
public import proofs.«01_k».proof.Proof.Ext

@[expose] public section

set_option maxRecDepth 16384

noncomputable section

open Idealize.ShloMosaic Idealize.ShloMosaic.TcCoe Idealize.SL.Sem
open Idealize.ShloMosaic.Pipeline (Dat)

namespace Cert.InProjIdeal.Project

open Cert.InProjIdeal Cert.InProjIdeal.Gen Cert.InProjIdeal.Value

variable (m : (ℓ : Loc nD τ sig) → Buf (Elt Ideal) ℓ) (ρ : Dev nD → PrngReg)

theorem idx : ∀ t : Fin cfg0.N, win0_0.index t = ![t.val % 64, 0] ∧ win0_1.index t = ![t.val % 64, t.val / 64] :=
  (by decide +kernel : ∀ t : Fin grid0.N, _)

/-- The projection as the call computes it: rows of `x` against columns of the arranged weights. -/
def proj (x : Vec Ideal S32768x2048 .f32) (w : Vec Ideal S2048x8704 .bf16) : Vec Ideal S32768x8704 .bf16 :=
  fun j => ∑ k : Fin 2048, x (ix2 (j 0) k) * w (ix2 k (j 1))

theorem slot_read (s : Fin 2) (off : Fin 3 → ℕ) (hoff : off = ![s.val, 0, 0]) (inb : ∀ a, off a + S1x2048x4352.size a ≤ S2x2048x4352.size a)
    (f : (rslot0_0 s).view.ty.Contents (Elt Ideal)) (v : Vec Ideal S2048x4352 .bf16) (x : S1x2048x4352.Idx) :
    View.readAt (Elt Ideal) (View.whole cc0_scratch0) (Rect.unit (s := S2x2048x4352) off S1x2048x4352.size inb).toLoadRect
      ((rslot0_0 s).view.writes (Elt Ideal) f [⟨Rect.whole S2048x4352, v⟩]) x = v (ix2 (x 1) (x 2)) := by
  subst hoff
  idx_vars x
  have h := congrFun (View.read_writes_whole (rslot0_0 s).view f v) (ix2 x1 x2)
  refine Eq.trans ?_ h
  generalize (rslot0_0 s).view.writes (Elt Ideal) f [⟨Rect.whole S2048x4352, v⟩] = F
  show F _ = F _
  refine congrArg F ?_
  refine Eq.trans (b := (ix3 ⟨s.val, by omega⟩ x1 x2 : S2x2048x4352.Idx)) ?_ ?_
  · funext a; apply Fin.ext
    match a with
    | ⟨0, _⟩ => show s.val + 1 * x0.val = s.val; omega
    | ⟨1, _⟩ => show 0 + 1 * x1.val = x1.val; omega
    | ⟨2, _⟩ => show 0 + 1 * x2.val = x2.val; omega
  · symm
    show (Rect.unit (s := S2x2048x4352) ![s.val, 0, 0] S1x2048x4352.size (inb_slot0_0 s)).emb (Shape.reshapeEquiv _ (ValueIdx.ix2 x1 x2)) = _
    refine (congrArg _ (ValueIdx.reshapeEquiv_ix2_1ab (by decide) x1 x2)).trans ?_
    funext a; apply Fin.ext
    match a with
    | ⟨0, _⟩ => show s.val + 1 * 0 = s.val; omega
    | ⟨1, _⟩ => show 0 + 1 * x1.val = x1.val; omega
    | ⟨2, _⟩ => show 0 + 1 * x2.val = x2.val; omega

theorem off7 : ∀ t : Fin cfg0.N, k0_off7 (grid0.coords t) = ![t.val / 64, 0, 0] :=
  (by decide +kernel : ∀ t : Fin grid0.N, _)

theorem src_read (b : Fin 2) (w : Vec Ideal S2048x8704 .bf16) (k : Fin 2048) (j : Fin 4352) :
    View.read (Elt Ideal) (srcB0_0 b).view w (ix2 k j) = w (ix2 k ⟨4352 * b.val + j.val, by omega⟩) := by
  show w _ = w _
  refine congrArg w ?_
  funext a; apply Fin.ext
  match a with
  | ⟨0, _⟩ => show 0 + 1 * k.val = k.val; omega
  | ⟨1, _⟩ => show 4352 * b.val + 1 * j.val = 4352 * b.val + j.val; omega

theorem x_read (c : Dev nD) (t : Fin cfg0.N) (r : Fin 512) (k : Fin 2048) :
    iblk m c 0 t (ix2 r k) = V m c main_v0 (ix2 ⟨512 * (t.val % 64) + r.val, by omega⟩ k) := by
  have hi := (idx t).1
  refine congrArg (V m c main_v0) ?_
  blk_ext [hi]

theorem out_coord (t : Fin cfg0.N) (y0 : Fin 512) (y1 : Fin 4352) :
    ((View.whole main_v18).slice (win0_1.rect t)).emb (ix2 y0 y1)
      = ix2 ⟨512 * (t.val % 64) + y0.val, by omega⟩ ⟨4352 * (t.val / 64) + y1.val, by have : t.val < 128 := t.isLt; omega⟩ := by
  have ho := (idx t).2
  blk_ext [ho]

/-- One grid point's payload, given that the ring slot it reads was filled by column block `t / 64`. -/
theorem point (c : Dev nD) (t : Fin cfg0.N) (w : Vec Ideal S2048x8704 .bf16) (y : S512x4352.Idx) (s b : Fin 2)
    (hs : s.val = t.val / 64) (hb : b.val = t.val / 64) :
    k0_pay1 (iblk m c 0 t)
      (View.readAt (Elt Ideal) (View.whole cc0_scratch0)
        (Rect.unit (s := S2x2048x4352) (k0_off7 (grid0.coords t)) S1x2048x4352.size (k0_off7_inb (grid0.coords t))).toLoadRect
        ((rslot0_0 s).view.writes (Elt Ideal) (rslot0_0 s).view.junk
          [⟨Rect.whole S2048x4352, ReadAs.same.apply (View.read (Elt Ideal) (srcB0_0 b).view w)⟩])) y
      = proj (V m c main_v0) w (((View.whole main_v18).slice (win0_1.rect t)).emb y) := by
  idx_vars y
  rw [out_coord]
  pointwise [k0_pay1]
  have hr : ∀ k : Fin 2048, View.readAt (Elt Ideal) (View.whole cc0_scratch0)
        (Rect.unit (s := S2x2048x4352) (k0_off7 (grid0.coords t)) S1x2048x4352.size (k0_off7_inb (grid0.coords t))).toLoadRect
        ((rslot0_0 s).view.writes (Elt Ideal) (rslot0_0 s).view.junk
          [⟨Rect.whole S2048x4352, ReadAs.same.apply (View.read (Elt Ideal) (srcB0_0 b).view w)⟩]) (ix3 0 k y1)
        = w (ix2 k ⟨4352 * (t.val / 64) + y1.val, by have : t.val < 128 := t.isLt; omega⟩) := fun k =>
    (slot_read s (k0_off7 (grid0.coords t)) ((off7 t).trans (by rw [hs])) (k0_off7_inb (grid0.coords t)) _ _ (ix3 0 k y1)).trans
      ((src_read b w k y1).trans (congrArg w (congrArg (ix2 k) (Fin.ext (congrArg (4352 * · + y1.val) hb)))))
  simp only [hr, x_read]
  rfl

theorem final (c : Dev nD) : (dats m 0 c).arrAt 1 cfg0.N = proj (V m c main_v0) (V m c main_v17) := by
  refine (dats m 0 c).arrAt_eq_of_covers 1 _ (by decide +kernel) fun t hf y => ?_
  blk_simp
  rw [after0_1]
  have ht : t.val < 128 := t.isLt
  have hring : ringStep0_0 t.val = (t.val + 63) / 64 := rfl
  by_cases h0 : t.val % 128 = 0
  · rw [outsAt0_A m c t h0 (by omega) (by omega)]
    frame_out
    exact point m c t _ y _ _ (by rw [hring]; simp only [Fin.ofNat]; omega) (by rw [hring]; unfold Ring.bk; simp; omega)
  by_cases h1 : t.val % 64 = 0
  · rw [outsAt0_C m c t h0 h1 (by omega)]
    frame_out
    exact point m c t _ y _ _ (by rw [hring]; simp only [Fin.ofNat]; omega) (by rw [hring]; unfold Ring.bk; simp; omega)
  rw [outsAt0_B m c t h0 h1]
  frame_out
  exact point m c t _ y _ _ (by rw [hring]; simp only [Fin.ofNat]; omega) (by rw [hring]; unfold Ring.bk; simp; omega)

/-- The log-2 scale of the queries, as the host computes it. -/
def scale : Vec Ideal S_ .f32 := Host.divf (F := Ideal) (constant (F := Ideal) S_ .f32 0x3E000000#32) (Host.log (F := Ideal) (constant (F := Ideal) S_ .f32 0x40000000#32))

/-- The heads of one column block of the weights in the kernel's paired order. -/
def paired (v : Vec Ideal S2048x1024 .f32) : Vec Ideal S2048x1024 .f32 :=
  shapeCast _ (transpose S2048x2x4x2x64 [0, 1, 3, 2, 4] (shapeCast _ v shapeCasts_S2048x1024_S2048x2x2x4x64) transposes_S2048x2x2x4x64_S2048x2x4x2x64_0_1_3_2_4) shapeCasts_S2048x2x4x2x64_S2048x1024

/-- The weights as the host arranges them for the kernel. -/
def arranged (w : Vec Ideal S2048x8704 .f32) : Vec Ideal S2048x8704 .bf16 :=
  truncf (F := Ideal) .bf16 ((concatenate S2048x8704 1 [⟨S2048x2048, (extractStridedSlice S2048x2048 ![0, 0] w slices_S2048x8704_S2048x2048_0_0 : Vec Ideal S2048x2048 .f32)⟩,
    ⟨S2048x1024, paired (mulf (F := Ideal) (φ := .f32) (extractStridedSlice S2048x1024 ![0, 2048] w slices_S2048x8704_S2048x1024_0_2048) (broadcastInDim S2048x1024 ![] bcast_S_S2048x1024 scale))⟩,
    ⟨S2048x1024, paired (extractStridedSlice S2048x1024 ![0, 3584] w slices_S2048x8704_S2048x1024_0_3584)⟩,
    ⟨S2048x4096, (extractStridedSlice S2048x4096 ![0, 4608] w slices_S2048x8704_S2048x4096_0_4608 : Vec Ideal S2048x4096 .f32)⟩,
    ⟨S2048x512, (extractStridedSlice S2048x512 ![0, 3072] w slices_S2048x8704_S2048x512_0_3072 : Vec Ideal S2048x512 .f32)⟩] concatenates_S2048x2048_S2048x1024_S2048x1024_S2048x4096_S2048x512_S2048x8704_d1) : Vec Ideal S2048x8704 .f32) bitsLt_bf16_f32

/-- What the kernel reads as its weights. -/
theorem w_eq (c : Dev nD) : V m c main_v17 = arranged (m ((c.tc : Thread nD τ).loc main_arg1)) := by
  unfold V
  after_results <;> rfl
/-- What the kernel reads as its rows. -/
theorem x_eq (c : Dev nD) (r : Fin 32768) (k : Fin 2048) : V m c main_v0 (ix2 r k)
    = m ((c.tc : Thread nD τ).loc main_arg0) (ix3 ⟨r.val / 8192, by omega⟩ ⟨r.val % 8192, by omega⟩ k) := by
  entry_read
  pointwise

/-- The projection at a row and a column, over the arguments. -/
theorem proj_at (c : Dev nD) (X : Vec Ideal S4x8192x2048 .f32) (hX : m ((c.tc : Thread nD τ).loc main_arg0) = X)
    (w : Vec Ideal S2048x8704 .bf16) (r : Fin 32768) (n : Fin 8704) : proj (V m c main_v0) w (ix2 r n)
    = ∑ k : Fin 2048, X (ix3 ⟨r.val / 8192, by omega⟩ ⟨r.val % 8192, by omega⟩ k) * w (ix2 k n) :=
  Finset.sum_congr rfl fun k _ => congrArg (fun z : EReal => z * w (ix2 k n)) ((x_eq m c r k).trans (congrFun hX _))

end Cert.InProjIdeal.Project

namespace Cert.Proof.InProjClaims

open Cert.InProjIdeal.Project

/-- The projection column by column: the reference's seven column blocks are the kernel's five, the queries' scale taken
into the sum. -/
theorem columns (x : Fin 2048 → EReal) (w : Fin 2048 → Fin 8704 → EReal) (s : EReal) (r : ℝ) (hs : s = (r : EReal)) (hr : 0 ≤ r) (n : Fin 8704) :
    (if h : n.val < 1024 then ∑ k, x k * w k n
     else if h : n.val - 1024 < 1024 then ∑ k, x k * w k ⟨1024 + (n.val - 1024), by omega⟩
     else if h : n.val - 1024 - 1024 < 1024 then (∑ k, x k * w k ⟨2048 + ((n.val - 1024 - 1024) / 512 * 512 + (n.val - 1024 - 1024) / 64 % 2 * 256 + (n.val - 1024 - 1024) / 128 % 4 * 64 + (n.val - 1024 - 1024) % 64), by omega⟩) * s
     else if h : n.val - 1024 - 1024 - 1024 < 1024 then ∑ k, x k * w k ⟨3584 + ((n.val - 1024 - 1024 - 1024) / 512 * 512 + (n.val - 1024 - 1024 - 1024) / 64 % 2 * 256 + (n.val - 1024 - 1024 - 1024) / 128 % 4 * 64 + (n.val - 1024 - 1024 - 1024) % 64), by omega⟩
     else if h : n.val - 1024 - 1024 - 1024 - 1024 < 4096 then ∑ k, x k * w k ⟨4608 + (n.val - 1024 - 1024 - 1024 - 1024), by omega⟩
     else if h : n.val - 1024 - 1024 - 1024 - 1024 - 4096 < 256 then ∑ k, x k * w k ⟨3072 + (n.val - 1024 - 1024 - 1024 - 1024 - 4096), by omega⟩
     else ∑ k, x k * w k ⟨3328 + (n.val - 1024 - 1024 - 1024 - 1024 - 4096 - 256), by omega⟩)
    = ∑ k, x k * (if h : n.val < 2048 then w k n
        else if h : n.val - 2048 < 1024 then w k ⟨2048 + ((n.val - 2048) / 512 * 512 + (n.val - 2048) / 64 % 2 * 256 + (n.val - 2048) / 128 % 4 * 64 + (n.val - 2048) % 64), by omega⟩ * s
        else if h : n.val - 2048 - 1024 < 1024 then w k ⟨3584 + ((n.val - 2048 - 1024) / 512 * 512 + (n.val - 2048 - 1024) / 64 % 2 * 256 + (n.val - 2048 - 1024) / 128 % 4 * 64 + (n.val - 2048 - 1024) % 64), by omega⟩
        else if h : n.val - 2048 - 1024 - 1024 < 4096 then w k ⟨4608 + (n.val - 2048 - 1024 - 1024), by omega⟩
        else w k ⟨3072 + (n.val - 2048 - 1024 - 1024 - 4096), by omega⟩) := by
  subst hs
  split_ifs <;> first
    | omega
    | (rw [Ext.sum_mul_coe _ _ hr]
       refine Finset.sum_congr rfl fun k _ => ?_
       rw [mul_assoc]
       refine congrArg (fun i => x k * (w k i * (r : EReal))) (Fin.ext ?_)
       (try simp only []) <;> omega)
    | (refine Finset.sum_congr rfl fun k _ => congrArg (fun i => x k * w k i) (Fin.ext ?_)
       (try simp only []) <;> omega)

/-- The projection kernel's result array is the reference's. -/
theorem algebraic : Cert.algebraic_InProjIdeal_InProjRefIdeal := by
  pair_intro
  · run_from Cert.InProjIdeal.Value.run_blocks m g
  · run_from Cert.InProjRefIdeal.Value.run m' g'
    rw [Cert.InProjIdeal.Project.final m c, w_eq]
    funext j
    idx_vars j
    generalize hX : (m (c.tc.loc InProjIdeal.main_arg0) : Vec Ideal InProjIdeal.S4x8192x2048 .f32) = X
    generalize (m (c.tc.loc InProjIdeal.main_arg1) : Vec Ideal InProjIdeal.S2048x8704 .f32) = W
    refine Eq.trans ?_ (proj_at m c X hX (arranged W) j0 j1).symm
    clear hX hagree hpre
    pointwise [arranged, paired, scale]
    exact columns (fun k => X (ix3 ⟨j0.val / 8192, by omega⟩ ⟨j0.val % 8192, by omega⟩ k)) (fun k n => W (ix2 k n)) _ _
      Ext.query_scale Ext.query_scale_nonneg j1

end Cert.Proof.InProjClaims

end
-- ==== Proof.Merge.lean ====
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)

namespace Cert.MergeIdeal.Merged

open Cert.MergeIdeal Cert.MergeIdeal.Gen Cert.MergeIdeal.Value

variable (m : (ℓ : Loc nD τ sig) → Buf (Elt Ideal) ℓ) (ρ : Dev nD → PrngReg)

theorem idx : ∀ t : Fin cfg0.N, win0_0.index t = ![min t.val 63, 0] ∧ win0_1.index t = ![min t.val 63, 0] ∧ win0_2.index t = ![min t.val 63, 1]
    ∧ win0_3.index t = ![min t.val 63, 0] ∧ win0_4.index t = ![0, 0] ∧ win0_5.index t = ![0, 0] ∧ win0_6.index t = ![0, 0]
    ∧ win0_7.index t = ![0, 0] ∧ win0_8.index t = ![0, 0] ∧ win0_9.index t = ![t.val - 1, 0] :=
  (by decide +kernel : ∀ t : Fin grid0.N, _)

/-- The gated sum of the two branches, for one block of rows. -/
def merged (x0 x1 : Vec Ideal S512x1024 .bf16) (x2 : Vec Ideal S512x4096 .bf16) (x4 x5 : Vec Ideal S1024x2048 .bf16) : Vec Ideal S512x2048 .bf16 :=
  fun y => Ideal.logistic (x2 (ix2 (y 0) ⟨(y 1).val, by have : (y 1).val < 2048 := (y 1).isLt; omega⟩)) * (∑ k : Fin 1024, x0 (ix2 (y 0) k) * x4 (ix2 k (y 1)))
    + Ideal.logistic (x2 (ix2 (y 0) ⟨2048 + (y 1).val, by have : (y 1).val < 2048 := (y 1).isLt; omega⟩)) * (∑ k : Fin 1024, x1 (ix2 (y 0) k) * x5 (ix2 k (y 1)))

/-- The residual sum that the call normalizes, for one block of rows. -/
def resid (g : Vec Ideal S512x2048 .bf16) (x3 : Vec Ideal S512x2048 .f32) (x6 : Vec Ideal S2048x2048 .bf16) : Vec Ideal S512x2048 .f32 :=
  fun y => Ideal.ofBits .f32 0x3F9837F0#32 * x3 y + ∑ k : Fin 2048, g (ix2 (y 0) k) * x6 (ix2 k (y 1))

/-- The four column blocks stored to the merge scratch, read back whole. -/
theorem merged_read (x0 x1 : Vec Ideal S512x1024 .bf16) (x2 : Vec Ideal S512x4096 .bf16) (x4 x5 : Vec Ideal S1024x2048 .bf16) :
    (View.whole cc0_scratch1).readCov (Val := Elt Ideal) [⟨Rect.unit (s := S512x2048) ![0, 1536] ![512, 512] inb_S512x2048_S512x512_0_1536, k0_pay18 (F := Ideal) (k0_pay6 x0) (k0_pay7 x1) (k0_pay15 (View.ld x2 (Rect.unit ![0, 1536] ![512, 512] inb_S512x4096_S512x512_0_1536))) (k0_pay16 (View.ld x2 (Rect.unit ![0, 3584] ![512, 512] inb_S512x4096_S512x512_0_3584))) k0_pay17 (View.ld x4 (Rect.unit ![0, 1536] ![1024, 512] inb_S1024x2048_S1024x512_0_1536)) (View.ld x5 (Rect.unit ![0, 1536] ![1024, 512] inb_S1024x2048_S1024x512_0_1536))⟩,
      ⟨Rect.unit (s := S512x2048) ![0, 1024] ![512, 512] inb_S512x2048_S512x512_0_1024, k0_pay14 (F := Ideal) (k0_pay6 x0) (k0_pay7 x1) (k0_pay12 (View.ld x2 (Rect.unit ![0, 1024] ![512, 512] inb_S512x4096_S512x512_0_1024))) (k0_pay13 (View.ld x2 (Rect.unit ![0, 3072] ![512, 512] inb_S512x4096_S512x512_0_3072))) (FloatOps.ofBits FTy.f32 1056964608#32) (View.ld x4 (Rect.unit ![0, 1024] ![1024, 512] inb_S1024x2048_S1024x512_0_1024)) (View.ld x5 (Rect.unit ![0, 1024] ![1024, 512] inb_S1024x2048_S1024x512_0_1024))⟩,
      ⟨Rect.unit (s := S512x2048) ![0, 512] ![512, 512] inb_S512x2048_S512x512_0_512, k0_pay11 (F := Ideal) (k0_pay6 x0) (k0_pay7 x1) (k0_pay10 (View.ld x2 (Rect.unit ![0, 512] ![512, 512] inb_S512x4096_S512x512_0_512))) (FloatOps.ofBits FTy.f32 1056964608#32) (View.ld x2 (Rect.unit ![0, 2560] ![512, 512] inb_S512x4096_S512x512_0_2560)) (View.ld x4 (Rect.unit ![0, 512] ![1024, 512] inb_S1024x2048_S1024x512_0_512)) (View.ld x5 (Rect.unit ![0, 512] ![1024, 512] inb_S1024x2048_S1024x512_0_512))⟩,
      ⟨Rect.unit (s := S512x2048) ![0, 0] ![512, 512] inb_S512x2048_S512x512_0_0, k0_pay9 (F := Ideal) (k0_pay6 x0) (k0_pay7 x1) (k0_pay8 (View.ld x2 (Rect.unit ![0, 0] ![512, 512] inb_S512x4096_S512x512_0_0))) (View.ld x2 (Rect.unit ![0, 2048] ![512, 512] inb_S512x4096_S512x512_0_2048)) (View.ld x4 (Rect.unit ![0, 0] ![1024, 512] inb_S1024x2048_S1024x512_0_0)) (View.ld x5 (Rect.unit ![0, 0] ![1024, 512] inb_S1024x2048_S1024x512_0_0))⟩]
      (Rect.unit (s := S512x2048) ![0, 0] ![512, 2048] inb_S512x2048_S512x2048_0_0).toLoadRect = merged x0 x1 x2 x4 x5 := by
  rw [View.readCov_eq_canon']
  funext y
  show View.canon _ ((Rect.unit (s := S512x2048) ![0, 0] ![512, 2048] inb_S512x2048_S512x2048_0_0).idx y) = _
  rw [show (Rect.unit (s := S512x2048) ![0, 0] ![512, 2048] inb_S512x2048_S512x2048_0_0).idx y = y from by
    funext a; apply Fin.ext
    match a with
    | ⟨0, _⟩ => show 0 + 1 * (y 0).val = (y 0).val; omega
    | ⟨1, _⟩ => show 0 + 1 * (y 1).val = (y 1).val; omega]
  canon_tiles j h
  all_goals
    idx_vars j
    idx_vars y
    pointwise [k0_pay6, k0_pay7, k0_pay8, k0_pay9, k0_pay10, k0_pay11, k0_pay12, k0_pay13, k0_pay14, k0_pay15, k0_pay16, k0_pay17, k0_pay18, merged]
    obtain rfl : y0 = j0 := Fin.ext h0
    have hb : y1.val < 2048 := y1.isLt
    rw [h1] at hb
    obtain rfl : y1 = ⟨_, hb⟩ := Fin.ext h1
    simp only [Ext.half_tanh, ← Nat.add_assoc, Nat.reduceAdd]

/-- Writes below a covering list are not seen. -/
theorem canon_covered {s : Shape} {e : EltTy} (L' : List (View.Piece (Elt Ideal) s e)) (y : s.Idx) :
    ∀ L : List (View.Piece (Elt Ideal) s e), (∃ p ∈ L, y ∈ p.1.set) → View.canon (L ++ L') y = View.canon L y
  | [], h => absurd h (by simp)
  | p :: L, h => by
    by_cases hp : y ∈ p.1.set
    · obtain ⟨x, rfl⟩ : ∃ x, p.1.emb x = y := by
        choose j hj hy using (LoadRect.mem_set _).mp hp
        exact ⟨fun a => ⟨j a, hj a⟩, funext fun a => Fin.ext (hy a).symm⟩
      exact (View.canon_cons_emb p.1 p.2 (L ++ L') x).trans (View.canon_cons_emb p.1 p.2 L x).symm
    · rw [List.cons_append, View.canon_cons_of_not_mem _ _ hp, View.canon_cons_of_not_mem _ _ hp]
      refine canon_covered L' y L ?_
      obtain ⟨q, hq, hy⟩ := h
      rcases List.mem_cons.mp hq with rfl | hq
      · exact absurd hy hp
      · exact ⟨q, hq, hy⟩

/-- The four column blocks of the residual sum stored to the row scratch. -/
theorem resid_canon (g : Vec Ideal S512x2048 .bf16) (x3 : Vec Ideal S512x2048 .f32) (x6 : Vec Ideal S2048x2048 .bf16) :
    View.canon (Val := Elt Ideal) [⟨Rect.unit (s := S512x2048) ![0, 1536] ![512, 512] inb_S512x2048_S512x512_0_1536, k0_pay3 (F := Ideal) g (View.ld x3 (Rect.unit ![0, 1536] ![512, 512] inb_S512x2048_S512x512_0_1536)) (View.ld x6 (Rect.unit ![0, 1536] ![2048, 512] inb_S2048x2048_S2048x512_0_1536))⟩,
      ⟨Rect.unit (s := S512x2048) ![0, 1024] ![512, 512] inb_S512x2048_S512x512_0_1024, k0_pay2 g (View.ld x3 (Rect.unit ![0, 1024] ![512, 512] inb_S512x2048_S512x512_0_1024)) (View.ld x6 (Rect.unit ![0, 1024] ![2048, 512] inb_S2048x2048_S2048x512_0_1024))⟩,
      ⟨Rect.unit (s := S512x2048) ![0, 512] ![512, 512] inb_S512x2048_S512x512_0_512, k0_pay1 (k0_pay20 g (View.ld x3 (Rect.unit ![0, 512] ![512, 512] inb_S512x2048_S512x512_0_512)) (View.ld x6 (Rect.unit ![0, 512] ![2048, 512] inb_S2048x2048_S2048x512_0_512)))⟩,
      ⟨Rect.unit (s := S512x2048) ![0, 0] ![512, 512] inb_S512x2048_S512x512_0_0, k0_pay19 g (View.ld x3 (Rect.unit ![0, 0] ![512, 512] inb_S512x2048_S512x512_0_0)) (View.ld x6 (Rect.unit ![0, 0] ![2048, 512] inb_S2048x2048_S2048x512_0_0))⟩] = resid g x3 x6 := by
  funext y
  canon_tiles j h
  all_goals
    idx_vars j
    idx_vars y
    pointwise [k0_pay1, k0_pay2, k0_pay3, k0_pay19, k0_pay20, resid]
    obtain rfl : y0 = j0 := Fin.ext h0
    have hb : y1.val < 2048 := y1.isLt
    rw [h1] at hb
    obtain rfl : y1 = ⟨_, hb⟩ := Fin.ext h1
    rfl

theorem row_A (c : Dev nD) (t : Fin cfg0.N) (h0 : t.val % 65 = 0) :
    (outsAt0 m c t.val t.isLt).2 = resid (merged (iblk m c 0 t) (iblk m c 1 t) (X0_2 m c t) (iblk m c 4 t) (iblk m c 5 t)) (iblk m c 3 t) (iblk m c 6 t) := by
  rw [outsAt0_A m c t h0]
  frame_open
  simp (disch := decide) only [↓ View.readCov_skip, ↓ View.readCov_cons_toLoadRect, ↓ View.readCov_fill]
  frame_out
  rw [merged_read]
  funext y
  refine Eq.trans ?_ (congrFun (resid_canon (merged (iblk m c 0 t) (iblk m c 1 t) (X0_2 m c t) (iblk m c 4 t) (iblk m c 5 t)) (iblk m c 3 t) (iblk m c 6 t)) y)
  exact canon_covered [_] y [_, _, _, _] (View.cover_of_tiledL (s := S512x2048) _ ![512, 512] (by sl_kernel_rfl) y)

theorem row_B (c : Dev nD) (t : Fin cfg0.N) (h0 : ¬ t.val % 65 = 0) :
    (outsAt0 m c t.val t.isLt).2 = resid (merged (iblk m c 0 t) (iblk m c 1 t) (X0_2 m c t) (iblk m c 4 t) (iblk m c 5 t)) (iblk m c 3 t) (iblk m c 6 t) := by
  rw [outsAt0_B m c t h0]
  frame_open
  simp (disch := decide) only [↓ View.readCov_skip, ↓ View.readCov_cons_toLoadRect, ↓ View.readCov_fill]
  frame_out
  rw [merged_read]
  exact resid_canon _ _ _

theorem out_B (c : Dev nD) (t : Fin cfg0.N) (h0 : ¬ t.val % 65 = 0) :
    (outsAt0 m c t.val t.isLt).1 = k0_pay5 (outsAt0 m c (t.val - 1) (by omega)).2 (iblk m c 7 t) (iblk m c 8 t) := by
  rw [outsAt0_B m c t h0]
  frame_open
  simp (disch := decide) only [↓ View.readCov_skip, ↓ View.readCov_cons_toLoadRect, ↓ View.readCov_fill]
  frame_out
  simp only [read_unread_whole]

theorem gates_block (c : Dev nD) (t : Fin cfg0.N) (r : Fin 512) (k : Fin 4096) :
    X0_2 m c t (ix2 r k) = V m c main_v24 (ix2 ⟨512 * (min t.val 63) + r.val, by omega⟩ ⟨4096 + k.val, by omega⟩) := by
  unfold X0_2 Pipeline.Window.fill
  rw [dif_pos (moved0_2 t _)]
  have hi := (idx t).2.2.1
  refine congrArg (V m c main_v24) ?_
  blk_ext [hi]

theorem hs_block (c : Dev nD) (t : Fin cfg0.N) (r : Fin 512) (k : Fin 1024) :
    iblk m c 0 t (ix2 r k) = V m c main_v1 (ix2 ⟨512 * (min t.val 63) + r.val, by omega⟩ k) := by
  have hi := (idx t).1
  refine congrArg (V m c main_v1) ?_
  blk_ext [hi]

theorem ha_block (c : Dev nD) (t : Fin cfg0.N) (r : Fin 512) (k : Fin 1024) :
    iblk m c 1 t (ix2 r k) = V m c main_v6 (ix2 ⟨512 * (min t.val 63) + r.val, by omega⟩ k) := by
  have hi := (idx t).2.1
  refine congrArg (V m c main_v6) ?_
  blk_ext [hi]

theorem x_block (c : Dev nD) (t : Fin cfg0.N) (r : Fin 512) (k : Fin 2048) :
    iblk m c 3 t (ix2 r k) = V m c main_v25 (ix2 ⟨512 * (min t.val 63) + r.val, by omega⟩ k) := by
  have hi := (idx t).2.2.2.1
  refine congrArg (V m c main_v25) ?_
  blk_ext [hi]

theorem wbs_block (c : Dev nD) (t : Fin cfg0.N) (r : Fin 1024) (k : Fin 2048) :
    iblk m c 4 t (ix2 r k) = V m c main_v26 (ix2 r k) := by
  have hi := (idx t).2.2.2.2.1
  refine congrArg (V m c main_v26) ?_
  blk_ext [hi]

theorem wba_block (c : Dev nD) (t : Fin cfg0.N) (r : Fin 1024) (k : Fin 2048) :
    iblk m c 5 t (ix2 r k) = V m c main_v30 (ix2 r k) := by
  have hi := (idx t).2.2.2.2.2.1
  refine congrArg (V m c main_v30) ?_
  blk_ext [hi]

theorem wo_block (c : Dev nD) (t : Fin cfg0.N) (r : Fin 2048) (k : Fin 2048) :
    iblk m c 6 t (ix2 r k) = V m c main_v31 (ix2 r k) := by
  have hi := (idx t).2.2.2.2.2.2.1
  refine congrArg (V m c main_v31) ?_
  blk_ext [hi]

theorem gain_block (c : Dev nD) (t : Fin cfg0.N) (r : Fin 1) (k : Fin 2048) :
    iblk m c 7 t (ix2 r k) = V m c main_v32 (ix2 r k) := by
  have hi := (idx t).2.2.2.2.2.2.2.1
  refine congrArg (V m c main_v32) ?_
  blk_ext [hi]

theorem bias_block (c : Dev nD) (t : Fin cfg0.N) (r : Fin 1) (k : Fin 2048) :
    iblk m c 8 t (ix2 r k) = V m c main_v33 (ix2 r k) := by
  have hi := (idx t).2.2.2.2.2.2.2.2.1
  refine congrArg (V m c main_v33) ?_
  blk_ext [hi]

theorem hs_eq (c : Dev nD) (r : Fin 32768) (k : Fin 1024) : V m c main_v1 (ix2 r k)
    = m ((c.tc : Thread nD τ).loc main_arg0) (ix3 ⟨r.val / 8192, by omega⟩ ⟨r.val % 8192, by omega⟩ k) := by
  entry_read
  pointwise

theorem ha_eq (c : Dev nD) (r : Fin 32768) (k : Fin 1024) : V m c main_v6 (ix2 r k)
    = m ((c.tc : Thread nD τ).loc main_arg1) (ix3 ⟨r.val / 8192, by omega⟩ ⟨r.val % 8192, by omega⟩ ⟨k.val / 512 * 512 + k.val / 64 % 2 * 256 + k.val / 128 % 4 * 64 + k.val % 64, by omega⟩) := by
  entry_read
  pointwise

theorem x_eq (c : Dev nD) (r : Fin 32768) (k : Fin 2048) : V m c main_v25 (ix2 r k)
    = m ((c.tc : Thread nD τ).loc main_arg3) (ix3 ⟨r.val / 8192, by omega⟩ ⟨r.val % 8192, by omega⟩ k) := by
  entry_read
  pointwise

theorem wbs_eq (c : Dev nD) (r : Fin 1024) (k : Fin 2048) : V m c main_v26 (ix2 r k)
    = m ((c.tc : Thread nD τ).loc main_arg4) (ix2 r k) := by
  entry_read
  pointwise

theorem wba_eq (c : Dev nD) (r : Fin 1024) (k : Fin 2048) : V m c main_v30 (ix2 r k)
    = m ((c.tc : Thread nD τ).loc main_arg5) (ix2 ⟨r.val / 512 * 512 + r.val / 64 % 2 * 256 + r.val / 128 % 4 * 64 + r.val % 64, by omega⟩ k) := by
  entry_read
  pointwise

theorem wo_eq (c : Dev nD) (r : Fin 2048) (k : Fin 2048) : V m c main_v31 (ix2 r k)
    = m ((c.tc : Thread nD τ).loc main_arg6) (ix2 r k) := by
  entry_read
  pointwise

theorem gain_eq (c : Dev nD) (r : Fin 1) (k : Fin 2048) : V m c main_v32 (ix2 r k)
    = m ((c.tc : Thread nD τ).loc main_arg7) (ix1 k) := by
  entry_read
  pointwise

theorem bias_eq (c : Dev nD) (r : Fin 1) (k : Fin 2048) : V m c main_v33 (ix2 r k)
    = m ((c.tc : Thread nD τ).loc main_arg8) (ix1 k) := by
  entry_read
  pointwise

/-- The log-2 scale of the queries, as the host computes it. -/
def scale : Vec Ideal S_ .f32 := Host.divf (F := Ideal) (constant (F := Ideal) S_ .f32 0x3E000000#32) (Host.log (F := Ideal) (constant (F := Ideal) S_ .f32 0x40000000#32))

/-- The heads of one column block of the projection in the kernel's paired order. -/
def paired (v : Vec Ideal S32768x1024 .f32) : Vec Ideal S32768x1024 .f32 :=
  shapeCast _ (transpose S32768x2x4x2x64 [0, 1, 3, 2, 4] (shapeCast _ v shapeCasts_S32768x1024_S32768x2x2x4x64) transposes_S32768x2x2x4x64_S32768x2x4x2x64_0_1_3_2_4) shapeCasts_S32768x2x4x2x64_S32768x1024

/-- The projection as the host arranges it for the kernel. -/
def arranged (p : Vec Ideal S4x8192x8704 .f32) : Vec Ideal S32768x8704 .bf16 :=
  let w : Vec Ideal S32768x8704 .f32 := shapeCast _ p shapeCasts_S4x8192x8704_S32768x8704
  truncf (F := Ideal) .bf16 ((concatenate S32768x8704 1 [⟨S32768x2048, (extractStridedSlice S32768x2048 ![0, 0] w slices_S32768x8704_S32768x2048_0_0 : Vec Ideal S32768x2048 .f32)⟩,
    ⟨S32768x1024, paired (mulf (F := Ideal) (φ := .f32) (extractStridedSlice S32768x1024 ![0, 2048] w slices_S32768x8704_S32768x1024_0_2048) (broadcastInDim S32768x1024 ![] bcast_S_S32768x1024 scale))⟩,
    ⟨S32768x1024, paired (extractStridedSlice S32768x1024 ![0, 3584] w slices_S32768x8704_S32768x1024_0_3584)⟩,
    ⟨S32768x4096, (extractStridedSlice S32768x4096 ![0, 4608] w slices_S32768x8704_S32768x4096_0_4608 : Vec Ideal S32768x4096 .f32)⟩,
    ⟨S32768x512, (extractStridedSlice S32768x512 ![0, 3072] w slices_S32768x8704_S32768x512_0_3072 : Vec Ideal S32768x512 .f32)⟩] concatenates_S32768x2048_S32768x1024_S32768x1024_S32768x4096_S32768x512_S32768x8704_d1) : Vec Ideal S32768x8704 .f32) bitsLt_bf16_f32

/-- What the kernel reads as its projection. -/
theorem proj_eq (c : Dev nD) : V m c main_v24 = arranged (m ((c.tc : Thread nD τ).loc main_arg2)) := by
  unfold V
  after_results <;> rfl

/-- The gates sit behind the first half of the arranged columns. -/
theorem arranged_gates (p : Vec Ideal S4x8192x8704 .f32) (r : Fin 32768) (k : Fin 4096) : arranged p (ix2 r ⟨4096 + k.val, by omega⟩)
    = p (ix3 ⟨r.val / 8192, by omega⟩ ⟨r.val % 8192, by omega⟩ ⟨4608 + k.val, by omega⟩) := by
  pointwise [arranged, paired, scale]
  rw [dif_neg (by omega), dif_neg (by omega), dif_neg (by omega), dif_pos (by omega)]
  refine congrArg (fun i => p (ix3 _ _ i)) (Fin.ext ?_)
  (try simp only []) <;> omega

theorem g_eq (c : Dev nD) (r : Fin 32768) (k : Fin 4096) : V m c main_v24 (ix2 r ⟨4096 + k.val, by omega⟩)
    = m ((c.tc : Thread nD τ).loc main_arg2) (ix3 ⟨r.val / 8192, by omega⟩ ⟨r.val % 8192, by omega⟩ ⟨4608 + k.val, by omega⟩) := by
  rw [proj_eq]
  exact arranged_gates _ r k

/-- Column `k` of the paired order, in the layer's order of heads. -/
def head (k : Fin 1024) : Fin 1024 := ⟨k.val / 512 * 512 + k.val / 64 % 2 * 256 + k.val / 128 % 4 * 64 + k.val % 64, by omega⟩

/-- The residual sum of the layer at one row and column: the gated branches through the output projection, added to the
scaled input. -/
def rowSum (hs ha : Fin 1024 → EReal) (g : Fin 4096 → EReal) (x : Fin 2048 → EReal) (wbs wba : Fin 1024 → Fin 2048 → EReal)
    (wo : Fin 2048 → Fin 2048 → EReal) (e : Fin 2048) : EReal :=
  Ideal.ofBits .f32 0x3F9837F0#32 * x e + ∑ n : Fin 2048, (Ideal.logistic (g ⟨n.val, by omega⟩) * (∑ k, hs k * wbs k n)
    + Ideal.logistic (g ⟨2048 + n.val, by omega⟩) * (∑ k, ha k * wba k n)) * wo n e

/-- One row normalized. -/
def normed (v gain bias : Fin 2048 → EReal) (e : Fin 2048) : EReal :=
  (v e - Ideal.div (∑ x, v x) (Ideal.ofBits .f32 0x45000000#32))
    * Ideal.rsqrt (Ideal.div (∑ x, (v x - Ideal.div (∑ x, v x) (Ideal.ofBits .f32 0x45000000#32)) * (v x - Ideal.div (∑ x, v x) (Ideal.ofBits .f32 0x45000000#32)))
        (Ideal.ofBits .f32 0x45000000#32) + Ideal.ofBits .f32 0x3727C5AC#32) * gain e + bias e

/-- The residual sum at a row of the whole array, over what the kernel reads. -/
def rowOf (c : Dev nD) (R : Fin 32768) : Fin 2048 → EReal :=
  rowSum (fun k => V m c main_v1 (ix2 R k)) (fun k => V m c main_v6 (ix2 R k))
    (fun k => V m c main_v24 (ix2 R ⟨4096 + k.val, by omega⟩)) (fun k => V m c main_v25 (ix2 R k))
    (fun k n => V m c main_v26 (ix2 k n)) (fun k n => V m c main_v30 (ix2 k n)) (fun k n => V m c main_v31 (ix2 k n))

theorem row_at (c : Dev nD) (t : Fin cfg0.N) (r : Fin 512) (e : Fin 2048) :
    (outsAt0 m c t.val t.isLt).2 (ix2 r e) = rowOf m c ⟨512 * min t.val 63 + r.val, by omega⟩ e := by
  have h : (outsAt0 m c t.val t.isLt).2 = resid (merged (iblk m c 0 t) (iblk m c 1 t) (X0_2 m c t) (iblk m c 4 t) (iblk m c 5 t)) (iblk m c 3 t) (iblk m c 6 t) := by
    by_cases h0 : t.val % 65 = 0
    · exact row_A m c t h0
    · exact row_B m c t h0
  rw [h]
  pointwise [resid, merged, rowSum, rowOf]
  simp only [hs_block, ha_block, gates_block, x_block, wbs_block, wba_block, wo_block]

theorem out_coord (t : Fin cfg0.N) (h0 : t.val ≠ 0) (y0 : Fin 512) (y1 : Fin 2048) :
    ((View.whole main_v34).slice (win0_9.rect t)).emb (ix2 y0 y1)
      = ix2 ⟨512 * min (t.val - 1) 63 + y0.val, by omega⟩ y1 := by
  have ho := (idx t).2.2.2.2.2.2.2.2.2
  have ht : t.val < 65 := t.isLt
  blk_ext [ho]
  all_goals omega

theorem flushes : ∀ t : Fin cfg0.N, (cfg0.win 9).flush t = true → t.val ≠ 0 :=
  (by decide +kernel : ∀ t : Fin grid0.N, _)

/-- The result array: each row of the residual sum, normalized. -/
theorem final (c : Dev nD) : (dats m 0 c).arrAt 9 cfg0.N
    = fun j => normed (rowOf m c (j 0)) (fun e => V m c main_v32 (ix2 0 e)) (fun e => V m c main_v33 (ix2 0 e)) (j 1) := by
  refine (dats m 0 c).arrAt_eq_of_covers 9 _ (by decide +kernel) fun t hf y => ?_
  blk_simp
  rw [after0_9]
  have h0 : t.val ≠ 0 := flushes t hf
  have ht : t.val < 65 := t.isLt
  rw [out_B m c t (by omega)]
  have hp := fun r e => row_at m c ⟨t.val - 1, lt_of_le_of_lt (Nat.sub_le _ _) t.isLt⟩ r e
  generalize (outsAt0 m c (t.val - 1) _).2 = v at hp ⊢
  idx_vars y
  rw [out_coord t h0]
  pointwise [k0_pay5, normed]
  simp only [hp, gain_block, bias_block]

theorem head_bijective : Function.Bijective head := by
  refine Function.bijective_iff_has_inverse.mpr
    ⟨fun k => ⟨k.val / 512 * 512 + k.val / 64 % 4 * 128 + k.val / 256 % 2 * 64 + k.val % 64, by omega⟩, ?_, ?_⟩
  · unfold Function.LeftInverse; decide +kernel
  · unfold Function.RightInverse Function.LeftInverse; decide +kernel

/-- The residual sum at a row of the whole array, over the arguments. -/
theorem rowOf_eq (c : Dev nD) (R : Fin 32768) : rowOf m c R
    = rowSum (fun k => m ((c.tc : Thread nD τ).loc main_arg0) (ix3 ⟨R.val / 8192, by omega⟩ ⟨R.val % 8192, by omega⟩ k))
      (fun k => m ((c.tc : Thread nD τ).loc main_arg1) (ix3 ⟨R.val / 8192, by omega⟩ ⟨R.val % 8192, by omega⟩ (head k)))
      (fun k => m ((c.tc : Thread nD τ).loc main_arg2) (ix3 ⟨R.val / 8192, by omega⟩ ⟨R.val % 8192, by omega⟩ ⟨4608 + k.val, by omega⟩))
      (fun k => m ((c.tc : Thread nD τ).loc main_arg3) (ix3 ⟨R.val / 8192, by omega⟩ ⟨R.val % 8192, by omega⟩ k))
      (fun k n => m ((c.tc : Thread nD τ).loc main_arg4) (ix2 k n)) (fun k n => m ((c.tc : Thread nD τ).loc main_arg5) (ix2 (head k) n))
      (fun k n => m ((c.tc : Thread nD τ).loc main_arg6) (ix2 k n)) := by
  have e0 := funext fun k => hs_eq m c R k
  have e1 := funext fun k => ha_eq m c R k
  have e2 := funext fun k => g_eq m c R k
  have e3 := funext fun k => x_eq m c R k
  have e4 := funext fun k => funext fun n => wbs_eq m c k n
  have e5 := funext fun k => funext fun n => wba_eq m c k n
  have e6 := funext fun k => funext fun n => wo_eq m c k n
  unfold rowOf
  rw [e0, e1, e2, e3, e4, e5, e6]
  rfl

/-- The contraction over the paired order is the contraction over the layer's. -/
theorem rowSum_head (hs ha : Fin 1024 → EReal) (g : Fin 4096 → EReal) (x : Fin 2048 → EReal) (wbs wba : Fin 1024 → Fin 2048 → EReal)
    (wo : Fin 2048 → Fin 2048 → EReal) : rowSum hs (fun k => ha (head k)) g x wbs (fun k n => wba (head k) n) wo = rowSum hs ha g x wbs wba wo := by
  funext e
  unfold rowSum
  simp only [fun n => head_bijective.sum_comp fun k => ha k * wba k n]

end Cert.MergeIdeal.Merged

namespace Cert.Proof.MergeClaims

open Cert.MergeRefIdeal Cert.MergeRefIdeal.Gen

/-- The residual sum, as the reference writes it. -/
def sums (A0 A1 : Vec Ideal S4x8192x1024 .f32) (P : Vec Ideal S4x8192x8704 .f32) (X : Vec Ideal S4x8192x2048 .f32)
    (W4 W5 : Vec Ideal S1024x2048 .f32) (W6 : Vec Ideal S2048x2048 .f32) : Vec Ideal S4x8192x2048 .f32 :=
  addf (F := Ideal) (φ := .f32) (mulf (F := Ideal) (φ := .f32) (broadcastInDim S4x8192x2048 ![] bcast_S_S4x8192x2048 (constant (F := Ideal) S_ .f32 0x3F9837F0#32)) X) (Host.dotGeneral (F := Ideal) (φ₁ := .f32) (φ₂ := .f32) dot_S4x8192x2048_S2048x2048_S4x8192x2048_2_0_01_1_n_n none (addf (F := Ideal) (φ := .f32) (mulf (F := Ideal) (φ := .f32) (extractStridedSlice S4x8192x2048 ![0, 0, 0] (Host.divf (F := Ideal) (φ := .f32) (broadcastInDim S4x8192x4096 ![] bcast_S_S4x8192x4096 (constant (F := Ideal) S_ .f32 0x3F800000#32)) (addf (F := Ideal) (φ := .f32) (broadcastInDim S4x8192x4096 ![] bcast_S_S4x8192x4096 (constant (F := Ideal) S_ .f32 0x3F800000#32)) (Host.exp (F := Ideal) (φ := .f32) (Host.negf (F := Ideal) (φ := .f32) (extractStridedSlice S4x8192x4096 ![0, 0, 4608] P slices_S4x8192x8704_S4x8192x4096_0_0_4608))))) slices_S4x8192x4096_S4x8192x2048_0_0_0) (Host.dotGeneral (F := Ideal) (φ₁ := .f32) (φ₂ := .f32) dot_S4x8192x1024_S1024x2048_S4x8192x2048_2_0_01_1_n_n none A0 W4)) (mulf (F := Ideal) (φ := .f32) (extractStridedSlice S4x8192x2048 ![0, 0, 2048] (Host.divf (F := Ideal) (φ := .f32) (broadcastInDim S4x8192x4096 ![] bcast_S_S4x8192x4096 (constant (F := Ideal) S_ .f32 0x3F800000#32)) (addf (F := Ideal) (φ := .f32) (broadcastInDim S4x8192x4096 ![] bcast_S_S4x8192x4096 (constant (F := Ideal) S_ .f32 0x3F800000#32)) (Host.exp (F := Ideal) (φ := .f32) (Host.negf (F := Ideal) (φ := .f32) (extractStridedSlice S4x8192x4096 ![0, 0, 4608] P slices_S4x8192x8704_S4x8192x4096_0_0_4608))))) slices_S4x8192x4096_S4x8192x2048_0_0_2048) (Host.dotGeneral (F := Ideal) (φ₁ := .f32) (φ₂ := .f32) dot_S4x8192x1024_S1024x2048_S4x8192x2048_2_0_01_1_n_n none A1 W5))) W6)

/-- The mean of each row. -/
def mean (v : Vec Ideal S4x8192x2048 .f32) : Vec Ideal S4x8192x1 .f32 :=
  Host.divf (F := Ideal) (φ := .f32) (broadcastInDim S4x8192x1 ![0, 1] bcast_S4x8192_S4x8192x1_0_1 (Host.reduceAdd (F := Ideal) (φ := .f32) v (constant (F := Ideal) S_ .f32 0x00000000#32) reducesTo_S4x8192x2048_S4x8192_d2 h_S_)) (broadcastInDim S4x8192x1 ![] bcast_S_S4x8192x1 (constant (F := Ideal) S_ .f32 0x45000000#32))

/-- The distance from each row's mean. -/
def centred (v : Vec Ideal S4x8192x2048 .f32) : Vec Ideal S4x8192x2048 .f32 :=
  subf (F := Ideal) (φ := .f32) v (broadcastInDim S4x8192x2048 ![0, 1, 2] bcast_S4x8192x1_S4x8192x2048_0_1_2 (mean v))

/-- The normalization of every row. -/
def layerNorm (v : Vec Ideal S4x8192x2048 .f32) (g b : Vec Ideal S2048 .f32) : Vec Ideal S4x8192x2048 .f32 :=
  addf (F := Ideal) (φ := .f32) (mulf (F := Ideal) (φ := .f32) (mulf (F := Ideal) (φ := .f32) (centred v) (broadcastInDim S4x8192x2048 ![0, 1, 2] bcast_S4x8192x1_S4x8192x2048_0_1_2 (Host.rsqrt (F := Ideal) (φ := .f32) (addf (F := Ideal) (φ := .f32) (mean (mulf (F := Ideal) (φ := .f32) (centred v) (centred v))) (broadcastInDim S4x8192x1 ![] bcast_S_S4x8192x1 (constant (F := Ideal) S_ .f32 0x3727C5AC#32))))))
    (broadcastInDim S4x8192x2048 ![0, 1, 2] bcast_S1x1x2048_S4x8192x2048_0_1_2 (broadcastInDim S1x1x2048 ![2] bcast_S2048_S1x1x2048_2 g)))
    (broadcastInDim S4x8192x2048 ![0, 1, 2] bcast_S1x1x2048_S4x8192x2048_0_1_2 (broadcastInDim S1x1x2048 ![2] bcast_S2048_S1x1x2048_2 b))

theorem sums_at (A0 A1 : Vec Ideal S4x8192x1024 .f32) (P : Vec Ideal S4x8192x8704 .f32) (X : Vec Ideal S4x8192x2048 .f32)
    (W4 W5 : Vec Ideal S1024x2048 .f32) (W6 : Vec Ideal S2048x2048 .f32) (b : Fin 4) (s : Fin 8192) (e : Fin 2048) :
    sums A0 A1 P X W4 W5 W6 (ix3 b s e) = Cert.MergeIdeal.Merged.rowSum (fun k => A0 (ix3 b s k)) (fun k => A1 (ix3 b s k))
      (fun k => P (ix3 b s ⟨4608 + k.val, by omega⟩)) (fun k => X (ix3 b s k)) (fun k n => W4 (ix2 k n)) (fun k n => W5 (ix2 k n))
      (fun k n => W6 (ix2 k n)) e := by
  pointwise [sums, Cert.MergeIdeal.Merged.rowSum]
  simp only [Ideal.logistic, Ideal.ofBits_one_f32, Nat.add_assoc, Nat.add_left_comm]

theorem layerNorm_at (v : Vec Ideal S4x8192x2048 .f32) (g b : Vec Ideal S2048 .f32) (i : Fin 4) (s : Fin 8192) (e : Fin 2048) :
    layerNorm v g b (ix3 i s e) = Cert.MergeIdeal.Merged.normed (fun e => v (ix3 i s e)) (fun e => g (ix1 e)) (fun e => b (ix1 e)) e := by
  pointwise [layerNorm, centred, mean, Cert.MergeIdeal.Merged.normed]

/-- The merge kernel's result array is the reference's. -/
theorem algebraic : Cert.algebraic_MergeIdeal_MergeRefIdeal := by
  pair_intro
  · run_from Cert.MergeIdeal.Value.run_blocks m g
  · run_from Cert.MergeRefIdeal.Value.run m' g'
    rw [Cert.MergeIdeal.Merged.final m c]
    obtain ⟨h0, h1, h2, h3, h4, h5, h6, h7, h8⟩ := hagree c
    have hres : Value.res_main_v48 m' c = shapeCast _ (layerNorm (sums (m' (c.tc.loc main_arg0)) (m' (c.tc.loc main_arg1)) (m' (c.tc.loc main_arg2))
        (m' (c.tc.loc main_arg3)) (m' (c.tc.loc main_arg4)) (m' (c.tc.loc main_arg5)) (m' (c.tc.loc main_arg6))) (m' (c.tc.loc main_arg7)) (m' (c.tc.loc main_arg8)))
        shapeCasts_S4x8192x2048_S32768x2048 := by
      unfold Value.res_main_v48
      rfl
    rw [hres, h0, h1, h2, h3, h4, h5, h6, h7, h8]
    clear hres h0 h1 h2 h3 h4 h5 h6 h7 h8 hagree hpre
    funext j
    idx_vars j
    refine Eq.trans ?_ (congr (congr (congr (congrArg Cert.MergeIdeal.Merged.normed ((Cert.MergeIdeal.Merged.rowOf_eq m c j0).trans (Cert.MergeIdeal.Merged.rowSum_head _ (fun k => m (c.tc.loc MergeIdeal.main_arg1) (ix3 ⟨j0.val / 8192, by omega⟩ ⟨j0.val % 8192, by omega⟩ k)) _ _ _ (fun k n => m (c.tc.loc MergeIdeal.main_arg5) (ix2 k n)) _)))
      (funext fun e => Cert.MergeIdeal.Merged.gain_eq m c 0 e)) (funext fun e => Cert.MergeIdeal.Merged.bias_eq m c 0 e)) (rfl : j1 = j1)).symm
    generalize (m (c.tc.loc MergeIdeal.main_arg0) : Vec Ideal S4x8192x1024 .f32) = A0
    generalize (m (c.tc.loc MergeIdeal.main_arg1) : Vec Ideal S4x8192x1024 .f32) = A1
    generalize (m (c.tc.loc MergeIdeal.main_arg2) : Vec Ideal S4x8192x8704 .f32) = P
    generalize (m (c.tc.loc MergeIdeal.main_arg3) : Vec Ideal S4x8192x2048 .f32) = X
    generalize (m (c.tc.loc MergeIdeal.main_arg4) : Vec Ideal S1024x2048 .f32) = W4
    generalize (m (c.tc.loc MergeIdeal.main_arg5) : Vec Ideal S1024x2048 .f32) = W5
    generalize (m (c.tc.loc MergeIdeal.main_arg6) : Vec Ideal S2048x2048 .f32) = W6
    generalize (m (c.tc.loc MergeIdeal.main_arg7) : Vec Ideal S2048 .f32) = G
    generalize (m (c.tc.loc MergeIdeal.main_arg8) : Vec Ideal S2048 .f32) = B
    pointwise
    rw [layerNorm_at]
    simp only [sums_at]

end Cert.Proof.MergeClaims

end
-- ==== Proof.Glu.lean ====
module

public import proofs.«01_k».proof.Defs
public import proofs.«01_k».proof.Proof.Gen.GluIdeal.Value
public import proofs.«01_k».proof.Proof.Gen.GluRefIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)

namespace Cert.GluIdeal.Gate

open Cert.GluIdeal Cert.GluIdeal.Gen Cert.GluIdeal.Value

variable (m : (ℓ : Loc nD τ sig) → Buf (Elt Ideal) ℓ) (ρ : Dev nD → PrngReg)

theorem idx : ∀ t : Fin cfg0.N, win0_0.index t = ![t.val, 0] ∧ win0_1.index t = ![t.val, 1] ∧ win0_2.index t = ![0, 0]
    ∧ win0_3.index t = ![min t.val 7, 0] ∧ win0_4.index t = ![min t.val 7 / 4 * 8 + min t.val 7 % 4, 0] ∧ win0_5.index t = ![min t.val 7 / 4 * 8 + 4 + min t.val 7 % 4, 0]
    ∧ win0_6.index t = ![min t.val 7, 0] ∧ win0_7.index t = ![t.val, 0] ∧ win0_8.index t = ![min t.val 7, 0]
    ∧ win0_9.index t = ![min t.val 7, 0] ∧ win0_10.index t = ![min t.val 7, 0] :=
  (by decide +kernel : ∀ t : Fin grid0.N, _)

/-- The gated linear unit at one row and column: one half of the projection times the logistic of the other half, times the
SiLU of the gate. -/
def gate (g : Fin 1024 → EReal) (w : Fin 1024 → Fin 2048 → EReal) (z : Fin 1024 → EReal) (n : Fin 1024) : EReal :=
  (∑ k, g k * w k ⟨n.val, by omega⟩) * Ideal.logistic (∑ k, g k * w k ⟨1024 + n.val, by omega⟩) * (z n * Ideal.logistic (z n))

/-- The four column blocks of the result, over one block of rows. -/
theorem gate_canon (g : Vec Ideal S1024x1024 .bf16) (w : Vec Ideal S1024x2048 .bf16) (z : Vec Ideal S1024x1024 .bf16) :
    View.canon (Val := Elt Ideal) (s := S1024x1024) (e := .bf16) [⟨Rect.unit (s := S1024x1024) ![0, 768] ![1024, 256] inb_S1024x1024_S1024x256_0_768,
          k0_pay1 (F := Ideal) (k0_pay3 g) (k0_pay11 (k0_pay3 g) (View.ld w (Rect.unit ![0, 768] ![1024, 256] inb_S1024x2048_S1024x256_0_768)))
            (View.ld w (Rect.unit ![0, 1792] ![1024, 256] inb_S1024x2048_S1024x256_0_1792)) (View.ld z (Rect.unit ![0, 768] ![1024, 256] inb_S1024x1024_S1024x256_0_768))⟩,
        ⟨Rect.unit (s := S1024x1024) ![0, 512] ![1024, 256] inb_S1024x1024_S1024x256_0_512,
          k0_pay9 (k0_pay3 g) (View.ld w (Rect.unit ![0, 512] ![1024, 256] inb_S1024x2048_S1024x256_0_512))
            (View.ld w (Rect.unit ![0, 1536] ![1024, 256] inb_S1024x2048_S1024x256_0_1536)) (View.ld z (Rect.unit ![0, 512] ![1024, 256] inb_S1024x1024_S1024x256_0_512))⟩,
        ⟨Rect.unit (s := S1024x1024) ![0, 256] ![1024, 256] inb_S1024x1024_S1024x256_0_256,
          k0_pay6 (k0_pay3 g) (View.ld w (Rect.unit ![0, 256] ![1024, 256] inb_S1024x2048_S1024x256_0_256))
            (View.ld w (Rect.unit ![0, 1280] ![1024, 256] inb_S1024x2048_S1024x256_0_1280)) (View.ld z (Rect.unit ![0, 256] ![1024, 256] inb_S1024x1024_S1024x256_0_256))⟩,
        ⟨Rect.unit (s := S1024x1024) ![0, 0] ![1024, 256] inb_S1024x1024_S1024x256_0_0,
          k0_pay4 g (View.ld w (Rect.unit ![0, 0] ![1024, 256] inb_S1024x2048_S1024x256_0_0))
            (View.ld w (Rect.unit ![0, 1024] ![1024, 256] inb_S1024x2048_S1024x256_0_1024)) (View.ld z (Rect.unit ![0, 0] ![1024, 256] inb_S1024x1024_S1024x256_0_0))⟩]
      = (fun y => gate (fun k => g (ix2 (y 0) k)) (fun k n => w (ix2 k n)) (fun n => z (ix2 (y 0) n)) (y 1) : Vec Ideal S1024x1024 .bf16) := by
  funext y
  canon_tiles j h
  all_goals
    idx_vars j
    idx_vars y
    pointwise [k0_pay1, k0_pay3, k0_pay4, k0_pay6, k0_pay9, k0_pay11, gate]
    obtain rfl : y0 = j0 := Fin.ext h0
    have hb : y1.val < 1024 := y1.isLt
    rw [h1] at hb
    obtain rfl : y1 = ⟨_, hb⟩ := Fin.ext h1
    simp only [Ext.half_tanh, ← Nat.add_assoc, Nat.reduceAdd]

theorem g_block (c : Dev nD) (t : Fin cfg0.N) (r k : Fin 1024) :
    iblk m c 0 t (ix2 r k) = V m c main_v1 (ix2 ⟨1024 * t.val + r.val, by have : t.val < 32 := t.isLt; omega⟩ k) := by
  have hi := (idx t).1
  refine congrArg (V m c main_v1) ?_
  blk_ext [hi]

theorem z_block (c : Dev nD) (t : Fin cfg0.N) (r k : Fin 1024) :
    X0_1 m c t (ix2 r k) = V m c main_v19 (ix2 ⟨1024 * t.val + r.val, by have : t.val < 32 := t.isLt; omega⟩ ⟨1024 + k.val, by omega⟩) := by
  unfold X0_1 Pipeline.Window.fill
  rw [dif_pos (moved0_1 t _)]
  have hi := (idx t).2.1
  refine congrArg (V m c main_v19) ?_
  blk_ext [hi]

theorem w_block (c : Dev nD) (t : Fin cfg0.N) (k : Fin 1024) (n : Fin 2048) : iblk m c 2 t (ix2 k n) = V m c main_v20 (ix2 k n) := by
  have hi := (idx t).2.2.1
  refine congrArg (V m c main_v20) ?_
  blk_ext [hi]

theorem out_coord (t : Fin cfg0.N) (y0 y1 : Fin 1024) :
    ((View.whole main_v21_0).slice (win0_7.rect t)).emb (ix2 y0 y1) = ix2 ⟨1024 * t.val + y0.val, by have : t.val < 32 := t.isLt; omega⟩ y1 := by
  have ho := (idx t).2.2.2.2.2.2.2.1
  blk_ext [ho]

/-- The first result. -/
theorem final7 (c : Dev nD) : (dats m 0 c).arrAt 7 cfg0.N = fun j => gate (fun k => V m c main_v1 (ix2 (j 0) k)) (fun k n => V m c main_v20 (ix2 k n))
    (fun n => V m c main_v19 (ix2 (j 0) ⟨1024 + n.val, by omega⟩)) (j 1) := by
  refine (dats m 0 c).arrAt_eq_of_covers 7 _ (by decide +kernel) fun t hf y => ?_
  blk_simp
  rw [after0_7]
  unfold outsAt0
  frame_out
  refine (congrFun (gate_canon (iblk m c 0 t) (iblk m c 2 t) (X0_1 m c t)) y).trans ?_
  idx_vars y
  rw [out_coord]
  pointwise
  simp only [g_block, w_block, z_block]

/-- The cast of the first branch's weights. -/
theorem final8 (c : Dev nD) : (dats m 0 c).arrAt 8 cfg0.N = (m ((c.tc : Thread nD τ).loc main_arg3) : Vec Ideal S1024x2048 .f32) := by
  refine (dats m 0 c).arrAt_eq_of_covers 8 _ (by decide +kernel) fun t hf y => ?_
  blk_simp
  rw [after0_8]
  unfold outsAt0
  frame_out
  have hi := (idx t).2.2.2.1
  have ho := (idx t).2.2.2.2.2.2.2.2.1
  idx_vars y
  pointwise [k0_pay5]
  refine Eq.trans ?_ (congrFun (V_main_arg3 m c) _)
  refine congrArg (V m c main_arg3) ?_
  blk_ext [hi, ho]

/-- The rows of the second branch's weights in the paired order of heads. -/
def head (k : Fin 1024) : Fin 1024 := ⟨k.val / 512 * 512 + k.val / 64 % 2 * 256 + k.val / 128 % 4 * 64 + k.val % 64, by omega⟩

/-- The cast of the second branch's weights. -/
theorem final9 (c : Dev nD) : (dats m 0 c).arrAt 9 cfg0.N = fun j => (m ((c.tc : Thread nD τ).loc main_arg4) : Vec Ideal S1024x2048 .f32) (ix2 (head (j 0)) (j 1)) := by
  refine (dats m 0 c).arrAt_eq_of_covers 9 _ (by decide +kernel) fun t hf y => ?_
  blk_simp
  rw [after0_9]
  unfold outsAt0
  frame_out
  have hi := (idx t).2.2.2.2.1
  have hj := (idx t).2.2.2.2.2.1
  have ho := (idx t).2.2.2.2.2.2.2.2.2.1
  have hv : ∀ j : S1024x2048.Idx, V m c main_arg4 j = m ((c.tc : Thread nD τ).loc main_arg4) j := fun j => congrFun (V_main_arg4 m c) j
  refine Eq.trans ?_ (hv _)
  have ht := t.isLt
  canon_tiles j h
  all_goals
    idx_vars j
    idx_vars y
    pointwise [k0_pay7, k0_pay8]
    refine congrArg (V m c main_arg4) ?_
    blk_ext [hi, hj, ho, head]
    all_goals omega

/-- The cast of the output projection. -/
theorem final10 (c : Dev nD) : (dats m 0 c).arrAt 10 cfg0.N = (m ((c.tc : Thread nD τ).loc main_arg5) : Vec Ideal S2048x2048 .f32) := by
  refine (dats m 0 c).arrAt_eq_of_covers 10 _ (by decide +kernel) fun t hf y => ?_
  blk_simp
  rw [after0_10]
  unfold outsAt0
  frame_out
  have hi := (idx t).2.2.2.2.2.2.1
  have ho := (idx t).2.2.2.2.2.2.2.2.2.2
  have hv : ∀ j : S2048x2048.Idx, V m c main_arg5 j = m ((c.tc : Thread nD τ).loc main_arg5) j := fun j => congrFun (V_main_arg5 m c) j
  refine Eq.trans ?_ (hv _)
  canon_tiles j h
  all_goals
    idx_vars j
    idx_vars y
    pointwise [k0_pay2, k0_pay10]
    refine congrArg (V m c main_arg5) ?_
    blk_ext [hi, ho]
    all_goals omega

/-- The log-2 scale of the queries, as the host computes it. -/
def scale : Vec Ideal S_ .f32 := Host.divf (F := Ideal) (constant (F := Ideal) S_ .f32 0x3E000000#32) (Host.log (F := Ideal) (constant (F := Ideal) S_ .f32 0x40000000#32))

/-- The heads of one column block of the projection in the kernel's paired order. -/
def paired (v : Vec Ideal S32768x1024 .f32) : Vec Ideal S32768x1024 .f32 :=
  shapeCast _ (transpose S32768x2x4x2x64 [0, 1, 3, 2, 4] (shapeCast _ v shapeCasts_S32768x1024_S32768x2x2x4x64) transposes_S32768x2x2x4x64_S32768x2x4x2x64_0_1_3_2_4) shapeCasts_S32768x2x4x2x64_S32768x1024

/-- The projection as the host arranges it for the kernel. -/
def arranged (p : Vec Ideal S4x8192x8704 .f32) : Vec Ideal S32768x8704 .bf16 :=
  let w : Vec Ideal S32768x8704 .f32 := shapeCast _ p shapeCasts_S4x8192x8704_S32768x8704
  truncf (F := Ideal) .bf16 ((concatenate S32768x8704 1 [⟨S32768x2048, (extractStridedSlice S32768x2048 ![0, 0] w slices_S32768x8704_S32768x2048_0_0 : Vec Ideal S32768x2048 .f32)⟩,
    ⟨S32768x1024, paired (mulf (F := Ideal) (φ := .f32) (extractStridedSlice S32768x1024 ![0, 2048] w slices_S32768x8704_S32768x1024_0_2048) (broadcastInDim S32768x1024 ![] bcast_S_S32768x1024 scale))⟩,
    ⟨S32768x1024, paired (extractStridedSlice S32768x1024 ![0, 3584] w slices_S32768x8704_S32768x1024_0_3584)⟩,
    ⟨S32768x4096, (extractStridedSlice S32768x4096 ![0, 4608] w slices_S32768x8704_S32768x4096_0_4608 : Vec Ideal S32768x4096 .f32)⟩,
    ⟨S32768x512, (extractStridedSlice S32768x512 ![0, 3072] w slices_S32768x8704_S32768x512_0_3072 : Vec Ideal S32768x512 .f32)⟩] concatenates_S32768x2048_S32768x1024_S32768x1024_S32768x4096_S32768x512_S32768x8704_d1) : Vec Ideal S32768x8704 .f32) bitsLt_bf16_f32

/-- What the kernel reads as its projection. -/
theorem proj_eq (c : Dev nD) : V m c main_v19 = arranged (m ((c.tc : Thread nD τ).loc main_arg1)) := by
  unfold V
  after_results <;> rfl

/-- The kernel's gate columns lie in the untouched part of the arranged columns. -/
theorem arranged_gate (p : Vec Ideal S4x8192x8704 .f32) (r : Fin 32768) (k : Fin 1024) : arranged p (ix2 r ⟨1024 + k.val, by omega⟩)
    = p (ix3 ⟨r.val / 8192, by omega⟩ ⟨r.val % 8192, by omega⟩ ⟨1024 + k.val, by omega⟩) := by
  pointwise [arranged, paired, scale]
  rw [dif_pos (by omega)]

theorem z_eq (c : Dev nD) (r : Fin 32768) (k : Fin 1024) : V m c main_v19 (ix2 r ⟨1024 + k.val, by omega⟩)
    = m ((c.tc : Thread nD τ).loc main_arg1) (ix3 ⟨r.val / 8192, by omega⟩ ⟨r.val % 8192, by omega⟩ ⟨1024 + k.val, by omega⟩) := by
  rw [proj_eq]
  exact arranged_gate _ r k

theorem g_eq (c : Dev nD) (r : Fin 32768) (k : Fin 1024) : V m c main_v1 (ix2 r k) = m ((c.tc : Thread nD τ).loc main_arg0) (ix3 ⟨r.val / 8192, by omega⟩ ⟨r.val % 8192, by omega⟩ k) := by
  entry_read
  pointwise

theorem w_eq (c : Dev nD) (k : Fin 1024) (n : Fin 2048) : V m c main_v20 (ix2 k n) = m ((c.tc : Thread nD τ).loc main_arg2) (ix2 k n) := by
  entry_read
  pointwise

/-- The first result over the arguments. -/
theorem gate_eq (c : Dev nD) (r : Fin 32768) (n : Fin 1024) : gate (fun k => V m c main_v1 (ix2 r k)) (fun k n => V m c main_v20 (ix2 k n))
      (fun n => V m c main_v19 (ix2 r ⟨1024 + n.val, by omega⟩)) n
    = gate (fun k => m ((c.tc : Thread nD τ).loc main_arg0) (ix3 ⟨r.val / 8192, by omega⟩ ⟨r.val % 8192, by omega⟩ k)) (fun k n => m ((c.tc : Thread nD τ).loc main_arg2) (ix2 k n))
      (fun n => m ((c.tc : Thread nD τ).loc main_arg1) (ix3 ⟨r.val / 8192, by omega⟩ ⟨r.val % 8192, by omega⟩ ⟨1024 + n.val, by omega⟩)) n := by
  have e0 := funext fun k => g_eq m c r k
  have e1 := funext fun k => funext fun n => w_eq m c k n
  have e2 := funext fun k => z_eq m c r k
  rw [e0, e1, e2]

end Cert.GluIdeal.Gate

namespace Cert.GluRefIdeal.Gate

open Cert.GluRefIdeal Cert.GluRefIdeal.Gen

/-- The logistic as the reference writes it. -/
def logistic (x : Vec Ideal S4x8192x1024 .f32) : Vec Ideal S4x8192x1024 .f32 :=
  Host.divf (broadcastInDim S4x8192x1024 ![] bcast_S_S4x8192x1024 (constant (F := Ideal) S_ .f32 0x3F800000#32))
    (addf (broadcastInDim S4x8192x1024 ![] bcast_S_S4x8192x1024 (constant (F := Ideal) S_ .f32 0x3F800000#32)) (Host.exp (Host.negf x)))

theorem logistic_apply (x : Vec Ideal S4x8192x1024 .f32) (a : Fin 4) (r : Fin 8192) (n : Fin 1024) :
    logistic x (ix3 a r n) = Ideal.logistic (x (ix3 a r n)) := by
  pointwise [logistic]
  simp only [Ideal.logistic, Ideal.ofBits_one_f32]

/-- The two halves of the projection, and the gate's columns. -/
def lower (g : Vec Ideal S4x8192x1024 .f32) (w : Vec Ideal S1024x2048 .f32) : Vec Ideal S4x8192x1024 .f32 :=
  extractStridedSlice S4x8192x1024 ![0, 0, 0] (Host.dotGeneral (F := Ideal) (φ₁ := .f32) (φ₂ := .f32) dot_S4x8192x1024_S1024x2048_S4x8192x2048_2_0_01_1_n_n none g w) slices_S4x8192x2048_S4x8192x1024_0_0_0

def upper (g : Vec Ideal S4x8192x1024 .f32) (w : Vec Ideal S1024x2048 .f32) : Vec Ideal S4x8192x1024 .f32 :=
  extractStridedSlice S4x8192x1024 ![0, 0, 1024] (Host.dotGeneral (F := Ideal) (φ₁ := .f32) (φ₂ := .f32) dot_S4x8192x1024_S1024x2048_S4x8192x2048_2_0_01_1_n_n none g w) slices_S4x8192x2048_S4x8192x1024_0_0_1024

def columns (p : Vec Ideal S4x8192x8704 .f32) : Vec Ideal S4x8192x1024 .f32 :=
  extractStridedSlice S4x8192x1024 ![0, 0, 1024] p slices_S4x8192x8704_S4x8192x1024_0_0_1024

theorem lower_apply (g : Vec Ideal S4x8192x1024 .f32) (w : Vec Ideal S1024x2048 .f32) (a : Fin 4) (r : Fin 8192) (n : Fin 1024) :
    lower g w (ix3 a r n) = ∑ k : Fin 1024, g (ix3 a r k) * w (ix2 k ⟨n.val, by omega⟩) := by
  pointwise [lower]

theorem upper_apply (g : Vec Ideal S4x8192x1024 .f32) (w : Vec Ideal S1024x2048 .f32) (a : Fin 4) (r : Fin 8192) (n : Fin 1024) :
    upper g w (ix3 a r n) = ∑ k : Fin 1024, g (ix3 a r k) * w (ix2 k ⟨1024 + n.val, by omega⟩) := by
  pointwise [upper]

theorem columns_apply (p : Vec Ideal S4x8192x8704 .f32) (a : Fin 4) (r : Fin 8192) (n : Fin 1024) :
    columns p (ix3 a r n) = p (ix3 a r ⟨1024 + n.val, by omega⟩) := by
  pointwise [columns]

/-- The reference's first result. -/
def gated (g : Vec Ideal S4x8192x1024 .f32) (p : Vec Ideal S4x8192x8704 .f32) (w : Vec Ideal S1024x2048 .f32) : Vec Ideal S32768x1024 .bf16 :=
  let v : Vec Ideal S4x8192x1024 .f32 := mulf (F := Ideal) (φ := .f32) (mulf (F := Ideal) (φ := .f32) (lower g w) (logistic (upper g w))) (mulf (F := Ideal) (φ := .f32) (columns p) (logistic (columns p)))
  let u : Vec Ideal S32768x1024 .f32 := shapeCast _ v shapeCasts_S4x8192x1024_S32768x1024
  truncf (F := Ideal) (φ := .f32) .bf16 u bitsLt_bf16_f32

theorem gated_apply (g : Vec Ideal S4x8192x1024 .f32) (p : Vec Ideal S4x8192x8704 .f32) (w : Vec Ideal S1024x2048 .f32) (r : Fin 32768) (n : Fin 1024) :
    gated g p w (ix2 r n) = GluIdeal.Gate.gate (fun k => g (ix3 ⟨r.val / 8192, by omega⟩ ⟨r.val % 8192, by omega⟩ k)) (fun k n => w (ix2 k n))
      (fun n => p (ix3 ⟨r.val / 8192, by omega⟩ ⟨r.val % 8192, by omega⟩ ⟨1024 + n.val, by omega⟩)) n := by
  pointwise [gated, GluIdeal.Gate.gate]
  simp only [logistic_apply, lower_apply, upper_apply, columns_apply]

/-- The reference's third result. -/
def reordered (w : Vec Ideal S1024x2048 .f32) : Vec Ideal S1024x2048 .bf16 :=
  let v : Vec Ideal S2x2x4x64x2048 .f32 := shapeCast _ w shapeCasts_S1024x2048_S2x2x4x64x2048
  let t : Vec Ideal S2x4x2x64x2048 .f32 := transpose S2x4x2x64x2048 [0, 2, 1, 3, 4] v transposes_S2x2x4x64x2048_S2x4x2x64x2048_0_2_1_3_4
  let u : Vec Ideal S1024x2048 .f32 := shapeCast _ t shapeCasts_S2x4x2x64x2048_S1024x2048
  truncf (F := Ideal) (φ := .f32) .bf16 u bitsLt_bf16_f32

theorem reordered_apply (w : Vec Ideal S1024x2048 .f32) (k : Fin 1024) (n : Fin 2048) : reordered w (ix2 k n) = w (ix2 (GluIdeal.Gate.head k) n) := by
  pointwise [reordered]
  rfl

end Cert.GluRefIdeal.Gate

namespace Cert.Proof.GluClaims

open Cert.GluIdeal.Gate

/-- The four results of the gate kernel are the reference's. -/
theorem algebraic : Cert.algebraic_GluIdeal_GluRefIdeal := by
  pair_intro
  · run_from Cert.GluIdeal.Value.run_blocks m g
  · run_from Cert.GluRefIdeal.Value.run m' g'
    · rw [final7 m c]
      funext j
      idx_vars j
      refine Eq.trans ?_ (gate_eq m c j0 j1).symm
      exact GluRefIdeal.Gate.gated_apply (m (c.tc.loc GluIdeal.main_arg0)) (m (c.tc.loc GluIdeal.main_arg1)) (m (c.tc.loc GluIdeal.main_arg2)) j0 j1
    · rw [final8 m c]
      rfl
    · rw [final9 m c]
      funext j
      idx_vars j
      exact GluRefIdeal.Gate.reordered_apply (m (c.tc.loc GluIdeal.main_arg4)) j0 j1
    · rw [final10 m c]
      rfl

end Cert.Proof.GluClaims

end
-- ==== Proof.AttnPair.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.Ext

@[expose] public section

set_option maxRecDepth 16384

noncomputable section

open Idealize.ShloMosaic Idealize.ShloMosaic.TcCoe Idealize.SL.Sem
open Idealize.ShloMosaic.Pipeline (Dat)

/-! One pair of key-value heads over one block of 128 queries: the vector operations of the kernel's body, and what they compute at one entry. -/

namespace Cert.KernelIdeal.Attn

open Cert.KernelIdeal Cert.KernelIdeal.Gen Cert.KernelIdeal.Value

/-- The keys of two heads, each over the lanes of its own head and zero elsewhere. -/
def keysBd (kv : FVec Ideal S256x512 .bf16) (o : Nat) (h : S256x512.Slices ![0, o] S256x128) : FVec Ideal S512x128 .bf16 :=
  concatenate S512x128 0 [⟨S256x128, select (k0_pay225 (F := Ideal)) (extractStridedSlice S256x128 ![0, o] kv h) (k0_pay227 (F := Ideal))⟩,
    ⟨S256x128, select (k0_pay225 (F := Ideal)) (k0_pay227 (F := Ideal)) (extractStridedSlice S256x128 ![0, o] kv h)⟩] concatenates_S256x128_S256x128_S512x128_d0

/-- The values of two heads beside the columns of ones that sum the weights. -/
def valuesBd (kv : FVec Ideal S256x512 .bf16) (o : Nat) (h : S256x512.Slices ![0, o] S256x128) : FVec Ideal S512x256 .bf16 :=
  concatenate S512x256 1 [⟨S512x128, keysBd kv o h⟩, ⟨S512x128, k0_pay229 (F := Ideal)⟩] concatenates_S512x128_S512x128_S512x256_d1

/-- The products of the queries of four tiles with the keys of two heads. -/
def logits (kb : FVec Ideal S512x128 .bf16) (q0 q1 q2 q3 : FVec Ideal S128x128 .bf16) : FVec Ideal S512x512 .f32 :=
  matmul (φ₁ := .bf16) (φ₂ := .bf16) dot_S512x128_S512x128_S512x512_1_1_0_0_n_n none
    (concatenate S512x128 0 [⟨S128x128, shapeCast S128x128 q0 shapeCasts_S128x128_S128x128⟩, ⟨S128x128, shapeCast S128x128 q1 shapeCasts_S128x128_S128x128⟩,
      ⟨S128x128, shapeCast S128x128 q2 shapeCasts_S128x128_S128x128⟩, ⟨S128x128, shapeCast S128x128 q3 shapeCasts_S128x128_S128x128⟩]
      concatenates_S128x128_S128x128_S128x128_S128x128_S512x128_d0) kb (constant S512x512 .f32 0x00000000#32)

/-- The band of one head folded onto 128 columns, with its bias. -/
def folded (x : FVec Ideal S512x512 .f32) (r k : Nat) (hp : S512x512.Slices ![r, k] S128x128) (hc : S512x512.Slices ![r, k + 128] S128x128)
    (b : Vec Ideal S1x1x128x128 .f32) : FVec Ideal S128x128 .f32 :=
  addf (select k0_pay221 (extractStridedSlice S128x128 ![r, k + 128] x hc) (extractStridedSlice S128x128 ![r, k] x hp))
    (shapeCast S128x128 b shapeCasts_S1x1x128x128_S128x128)

/-- The largest logit of a row, the sink among them. -/
def rowMax (lg : FVec Ideal S128x128 .f32) (s : EReal) : FVec Ideal S128x1 .f32 :=
  maximumf (φ := .f32) (shapeCast S128x1 (multiReduction (F := Ideal) (φ := .f32) .maximumf [1] S128 lg 0xFF800000#32 reduces_S128x128_S128 (.inl rfl) rfl) shapeCasts_S128_S128x1)
    (broadcast S128x1 s)

def weights (lg : FVec Ideal S128x128 .f32) (mx : FVec Ideal S128x1 .f32) : FVec Ideal S128x128 .bf16 :=
  truncf (φ := .f32) .bf16 (exp2 (φ := .f32) (subf lg (broadcastTo S128x128 mx broadcasts_S128x1_S128x128))) bitsLt_bf16_f32

/-- The weights of two heads, unfolded onto their bands. -/
def bands (p0 p1 : FVec Ideal S128x128 .bf16) : FVec Ideal S128x512 .bf16 :=
  concatenate S128x512 1 [⟨S128x128, select (k0_pay222 (F := Ideal)) (k0_pay228 (F := Ideal)) p0⟩, ⟨S128x128, select (k0_pay222 (F := Ideal)) p0 (k0_pay228 (F := Ideal))⟩,
    ⟨S128x128, select (k0_pay222 (F := Ideal)) (k0_pay228 (F := Ideal)) p1⟩, ⟨S128x128, select (k0_pay222 (F := Ideal)) p1 (k0_pay228 (F := Ideal))⟩]
    concatenates_S128x128_S128x128_S128x128_S128x128_S128x512_d1

/-- The weights of two heads' sinks, each over the lanes of its own head. -/
def sinkRow (s0 s1 : EReal) (m0 m1 : FVec Ideal S128x1 .f32) : FVec Ideal S128x128 .f32 :=
  exp2 (φ := .f32) (select k0_pay226
    (broadcastTo S128x128 (shapeCast S128x1 (subf (φ := .f32) (broadcast S128x1 s0) m0) shapeCasts_S128x1_S128x1) broadcasts_S128x1_S128x128)
    (broadcastTo S128x128 (shapeCast S128x1 (subf (φ := .f32) (broadcast S128x1 s1) m1) shapeCasts_S128x1_S128x1) broadcasts_S128x1_S128x128))

/-- The weighted values of four tiles over the sum of their weights. -/
def ratio (v : FVec Ideal S512x256 .bf16) (p0 p1 p2 p3 : FVec Ideal S128x512 .bf16) (e0 e1 e2 e3 : FVec Ideal S128x128 .f32) : FVec Ideal S512x128 .f32 :=
  let oa : FVec Ideal S512x256 .f32 := matmul (φ₁ := .bf16) (φ₂ := .bf16) dot_S512x512_S512x256_S512x256_1_0_0_1_n_n none
    (concatenate S512x512 0 [⟨S128x512, p0⟩, ⟨S128x512, p1⟩, ⟨S128x512, p2⟩, ⟨S128x512, p3⟩] concatenates_S128x512_S128x512_S128x512_S128x512_S512x512_d0)
    v (constant S512x256 .f32 0x00000000#32)
  divf (φ := .f32) (extractStridedSlice S512x128 ![0, 0] oa slices_S512x256_o0_0_S512x128)
    (addf (φ := .f32) (extractStridedSlice S512x128 ![0, 128] oa slices_S512x256_o0_128_S512x128)
      (concatenate S512x128 0 [⟨S128x128, e0⟩, ⟨S128x128, e1⟩, ⟨S128x128, e2⟩, ⟨S128x128, e3⟩] concatenates_S128x128_S128x128_S128x128_S128x128_S512x128_d0))

/-- One tile times the SiLU of its gate. -/
def gated (o : FVec Ideal S512x128 .f32) (r : Nat) (h : S512x128.Slices ![r, 0] S128x128) (z : FVec Ideal S128x128 .bf16) : FVec Ideal S128x128 .bf16 :=
  let z' : FVec Ideal S128x128 .f32 := extf (φ := .bf16) .f32 (shapeCast S128x128 z shapeCasts_S128x128_S128x128) bitsLt_bf16_f32
  truncf (φ := .f32) .bf16 (mulf (extractStridedSlice S128x128 ![r, 0] o h)
    (mulf z' (addf (broadcast S128x128 (Scalar.ofBits (F := Ideal) .f32 0x3F000000#32))
      (mulf (broadcast S128x128 (Scalar.ofBits (F := Ideal) .f32 0x3F000000#32)) (tanh (mulf (broadcast S128x128 (Scalar.ofBits (F := Ideal) .f32 0x3F000000#32)) z')))))) bitsLt_bf16_f32

/-- A lane's number, converted to a float. -/
theorem lane_float (n : Nat) (h : n < 2 ^ 31) : (FloatOps.sitofp (F := Ideal) .f32 (BitVec.ofNat 32 n)) = ((n : ℝ) : EReal) := by
  show (((BitVec.ofNat 32 n).toInt : ℝ) : EReal) = _
  have : (BitVec.ofNat 32 n).toInt = (n : Int) := by
    rw [BitVec.toInt_eq_toNat_of_lt, BitVec.toNat_ofNat, Nat.mod_eq_of_lt (by omega)]
    rw [BitVec.toNat_ofNat, Nat.mod_eq_of_lt (by omega)]; omega
  rw [this]; norm_num

theorem sixty_four : Ideal.ofBits .bf16 0x4280#16 = ((64 : ℝ) : EReal) := by
  simp [Ideal.ofBits, Ideal.ieee, -EReal.coe_mul]; norm_num

theorem lane_lt (n : Nat) (h : n < 2 ^ 31) : (FloatOps.sitofp (F := Ideal) .f32 (BitVec.ofNat 32 n) < Ideal.ofBits .bf16 0x4280#16) = (n < 64) := by
  rw [lane_float n h, sixty_four, EReal.coe_lt_coe_iff]
  exact propext (by exact_mod_cast Iff.rfl)

theorem lane_le (a b : Nat) (ha : a < 2 ^ 31) (hb : b < 2 ^ 31) :
    (FloatOps.sitofp (F := Ideal) .f32 (BitVec.ofNat 32 a) ≤ FloatOps.sitofp (F := Ideal) .f32 (BitVec.ofNat 32 b)) = (a ≤ b) := by
  rw [lane_float a ha, lane_float b hb, EReal.coe_le_coe_iff]
  exact propext (by exact_mod_cast Iff.rfl)

theorem select_le {α : Type} (a b : Nat) (ha : a < 2 ^ 31) (hb : b < 2 ^ 31) (x y : α) :
    Scalar.select (IntOp.cmpi .sle (BitVec.ofNat 32 a) (BitVec.ofNat 32 b)) x y = if a ≤ b then x else y := by
  unfold Scalar.select
  by_cases h : a ≤ b
  · rw [if_pos h]; exact if_pos ((WordCmp.cmpi_sle_ofNat_eq_one_iff (w := 32) ha hb).mpr h)
  · rw [if_neg h]; exact if_neg fun e => h ((WordCmp.cmpi_sle_ofNat_eq_one_iff (w := 32) ha hb).mp e)

theorem select_lt {α : Type} (a b : Nat) (ha : a < 2 ^ 31) (hb : b < 2 ^ 31) (x y : α) :
    Scalar.select (IntOp.cmpi .slt (BitVec.ofNat 32 a) (BitVec.ofNat 32 b)) x y = if a < b then x else y := by
  unfold Scalar.select
  by_cases h : a < b
  · rw [if_pos h]; exact if_pos ((WordCmp.cmpi_slt_ofNat_eq_one_iff (w := 32) ha hb).mpr h)
  · rw [if_neg h]; exact if_neg fun e => h ((WordCmp.cmpi_slt_ofNat_eq_one_iff (w := 32) ha hb).mp e)

theorem minus_infinity : Ideal.ofBits .f32 0xFF800000#32 = ⊥ := by
  simp [Ideal.ofBits, Ideal.ieee]

theorem keysBd_apply (kv : FVec Ideal S256x512 .bf16) (o : Nat) (h : S256x512.Slices ![0, o] S256x128) (ho : o ≤ 384) (u : Fin 2) (j : Fin 256) (d : Fin 128) :
    keysBd kv o h (ix2 ⟨256 * u.val + j.val, by omega⟩ d) = if d.val / 64 = u.val then kv (ix2 j ⟨o + d.val, by omega⟩) else 0 := by
  pointwise [keysBd, k0_pay225, k0_pay227]
  simp only [lane_lt d.val (by omega)]
  by_cases hd : d.val / 64 = u.val
  · refine Eq.trans ?_ (if_pos hd).symm
    split_ifs <;> first | (exfalso; omega) | rfl | (refine congrArg kv (congrArg₂ ix2 (Fin.ext ?_) rfl); (try simp only []); omega)
  · refine Eq.trans ?_ (if_neg hd).symm
    split_ifs <;> first | (exfalso; omega) | rfl

theorem valuesBd_apply (kv : FVec Ideal S256x512 .bf16) (o : Nat) (h : S256x512.Slices ![0, o] S256x128) (ho : o ≤ 384) (k : Fin 512) (d : Fin 128) :
    valuesBd kv o h (ix2 k ⟨d.val, by omega⟩) = keysBd kv o h (ix2 k d) := by
  pointwise [valuesBd]

theorem ones_apply (kv : FVec Ideal S256x512 .bf16) (o : Nat) (h : S256x512.Slices ![0, o] S256x128) (ho : o ≤ 384) (u : Fin 2) (j : Fin 256) (d : Fin 128) :
    valuesBd kv o h (ix2 ⟨256 * u.val + j.val, by omega⟩ ⟨128 + d.val, by omega⟩) = if d.val / 64 = u.val then 1 else 0 := by
  pointwise [valuesBd, k0_pay229, k0_pay225, k0_pay227]
  simp only [lane_lt d.val (by omega)]
  split_ifs <;> (try split_ifs) <;> (try split_ifs) <;> first | (exfalso; omega) | rfl

theorem folded_apply (x : FVec Ideal S512x512 .f32) (r k : Nat) (hp : S512x512.Slices ![r, k] S128x128) (hc : S512x512.Slices ![r, k + 128] S128x128)
    (b : Vec Ideal S1x1x128x128 .f32) (hr : r ≤ 384) (hk : k ≤ 256) (i c : Fin 128) :
    folded x r k hp hc b (ix2 i c) = (if c.val ≤ i.val then x (ix2 ⟨r + i.val, by omega⟩ ⟨k + 128 + c.val, by omega⟩) else x (ix2 ⟨r + i.val, by omega⟩ ⟨k + c.val, by omega⟩))
      + b (ix4 0 0 i c) := by
  pointwise [folded, k0_pay221]
  rw [select_le _ _ (by omega) (by omega)]

theorem rowMax_apply (lg : FVec Ideal S128x128 .f32) (s : EReal) (i : Fin 128) :
    rowMax lg s (ix2 i 0) = max (Finset.univ.sup fun c : Fin 128 => lg (ix2 i c)) s := by
  pointwise [rowMax]
  rw [minus_infinity]
  rfl

theorem weights_apply (lg : FVec Ideal S128x128 .f32) (mx : FVec Ideal S128x1 .f32) (i c : Fin 128) :
    weights lg mx (ix2 i c) = Ideal.exp2 (lg (ix2 i c) - mx (ix2 i 0)) := by
  pointwise [weights]
  rfl

theorem bands_apply (p0 p1 : FVec Ideal S128x128 .bf16) (i : Fin 128) (u w : Fin 2) (c : Fin 128) :
    bands p0 p1 (ix2 i ⟨256 * u.val + 128 * w.val + c.val, by omega⟩)
      = if (c.val ≤ i.val ↔ w.val = 1) then (if u.val = 0 then p0 else p1) (ix2 i c) else 0 := by
  pointwise [bands, k0_pay222, k0_pay228]
  simp only [lane_le _ _ (show 256 * u.val + 128 * w.val + c.val < 2 ^ 31 by omega) (show i.val < 2 ^ 31 by omega),
    lane_le _ _ (show 256 * u.val + 128 * w.val + c.val - 128 < 2 ^ 31 by omega) (show i.val < 2 ^ 31 by omega),
    lane_le _ _ (show 256 * u.val + 128 * w.val + c.val - 128 - 128 < 2 ^ 31 by omega) (show i.val < 2 ^ 31 by omega),
    lane_le _ _ (show 256 * u.val + 128 * w.val + c.val - 128 - 128 - 128 < 2 ^ 31 by omega) (show i.val < 2 ^ 31 by omega)]
  by_cases h1 : c.val ≤ i.val ↔ w.val = 1
  · refine Eq.trans ?_ (if_pos h1).symm
    by_cases h2 : u.val = 0
    · refine Eq.trans ?_ (congrArg (fun f : Vec Ideal (_) .f32 => f (ix2 i c)) (if_pos h2)).symm
      split_ifs <;> first | (exfalso; omega) | (refine congrArg p0 (congrArg (ix2 i) (Fin.ext ?_)); (try simp only []); omega)
    · refine Eq.trans ?_ (congrArg (fun f : Vec Ideal (_) .f32 => f (ix2 i c)) (if_neg h2)).symm
      split_ifs <;> first | (exfalso; omega) | (refine congrArg p1 (congrArg (ix2 i) (Fin.ext ?_)); (try simp only []); omega)
  · refine Eq.trans ?_ (if_neg h1).symm
    split_ifs <;> first | (exfalso; omega) | rfl

theorem sinkRow_apply (s0 s1 : EReal) (m0 m1 : FVec Ideal S128x1 .f32) (i n : Fin 128) :
    sinkRow s0 s1 m0 m1 (ix2 i n) = Ideal.exp2 (if n.val < 64 then s0 - m0 (ix2 i 0) else s1 - m1 (ix2 i 0)) := by
  pointwise [sinkRow, k0_pay226]
  rw [select_lt _ _ (by omega) (by omega)]
  rfl

theorem gated_apply (o : FVec Ideal S512x128 .f32) (r : Nat) (h : S512x128.Slices ![r, 0] S128x128) (z : FVec Ideal S128x128 .bf16) (hr : r ≤ 384) (i n : Fin 128) :
    gated o r h z (ix2 i n) = o (ix2 ⟨r + i.val, by omega⟩ n) * (z (ix2 i n) * Ideal.logistic (z (ix2 i n))) := by
  pointwise [gated]
  rw [Ext.half_tanh]

/-- A sum over the 512 columns of two heads' bands. -/
theorem sum_bands (f : Fin 512 → EReal) :
    ∑ k, f k = ∑ u : Fin 2, ∑ w : Fin 2, ∑ c : Fin 128, f ⟨256 * u.val + 128 * w.val + c.val, by omega⟩ := by
  rw [← Fintype.sum_prod_type', ← Fintype.sum_prod_type']
  refine (Fintype.sum_equiv ⟨fun p : (Fin 2 × Fin 2) × Fin 128 => (⟨256 * p.1.1.val + 128 * p.1.2.val + p.2.val, by omega⟩ : Fin 512),
    fun k => ((⟨k.val / 256, by omega⟩, ⟨k.val / 128 % 2, by omega⟩), ⟨k.val % 128, by omega⟩), fun p => ?_, fun k => ?_⟩ _ _ fun _ => rfl).symm
  · refine Prod.ext (Prod.ext (Fin.ext ?_) (Fin.ext ?_)) (Fin.ext ?_) <;> (try simp only []) <;> omega
  · refine Fin.ext ?_
    (try simp only []) <;> omega

/-- A sum over the 128 lanes of two heads. -/
theorem sum_lanes (f : Fin 128 → EReal) : ∑ k, f k = ∑ u : Fin 2, ∑ d : Fin 64, f ⟨64 * u.val + d.val, by omega⟩ := by
  rw [← Fintype.sum_prod_type']
  refine (Fintype.sum_equiv ⟨fun p : Fin 2 × Fin 64 => (⟨64 * p.1.val + p.2.val, by omega⟩ : Fin 128),
    fun k => (⟨k.val / 64, by omega⟩, ⟨k.val % 64, by omega⟩), fun p => ?_, fun k => ?_⟩ _ _ fun _ => rfl).symm
  · refine Prod.ext (Fin.ext ?_) (Fin.ext ?_) <;> (try simp only []) <;> omega
  · refine Fin.ext ?_
    (try simp only []) <;> omega

/-- A sum over two heads of terms of one of them. -/
theorem sum_own {α : Type} [AddCommMonoid α] (u : Fin 2) (f : Fin 2 → α) (h : ∀ v, v ≠ u → f v = 0) : ∑ v, f v = f u :=
  Fintype.sum_eq_single u h

/-- The piece of four stacked ones that holds a row. -/
theorem pick {α : Type} (f : Fin 4 → Fin 128 → α) (g : Fin 4) (i : Fin 128) :
    (if h : 128 * g.val + i.val < 128 then f 0 ⟨128 * g.val + i.val, h⟩
      else if h : 128 * g.val + i.val - 128 < 128 then f 1 ⟨128 * g.val + i.val - 128, h⟩
        else if h : 128 * g.val + i.val - 128 - 128 < 128 then f 2 ⟨128 * g.val + i.val - 128 - 128, h⟩
          else f 3 ⟨128 * g.val + i.val - 128 - 128 - 128, by omega⟩) = f g i := by
  have hg : g.val = 0 ∨ g.val = 1 ∨ g.val = 2 ∨ g.val = 3 := by omega
  split_ifs
  · exact congrArg₂ f (Fin.ext (show 0 = g.val by omega)) (Fin.ext (show 128 * g.val + i.val = i.val by omega))
  · exact congrArg₂ f (Fin.ext (show 1 = g.val by omega)) (Fin.ext (show 128 * g.val + i.val - 128 = i.val by omega))
  · exact congrArg₂ f (Fin.ext (show 2 = g.val by omega)) (Fin.ext (show 128 * g.val + i.val - 128 - 128 = i.val by omega))
  · exact congrArg₂ f (Fin.ext (show 3 = g.val by omega)) (Fin.ext (show 128 * g.val + i.val - 128 - 128 - 128 = i.val by omega))

theorem logits_apply (kb : FVec Ideal S512x128 .bf16) (q : Fin 4 → FVec Ideal S128x128 .bf16) (g : Fin 4) (i : Fin 128) (k : Fin 512) :
    logits kb (q 0) (q 1) (q 2) (q 3) (ix2 ⟨128 * g.val + i.val, by omega⟩ k) = ∑ d : Fin 128, q g (ix2 i d) * kb (ix2 k d) := by
  pointwise [logits]
  refine Finset.sum_congr rfl fun d _ => congrArg (· * kb (ix2 k d)) ?_
  exact pick (fun g' i' => q g' (ix2 i' d)) g i

theorem ratio_apply (v : FVec Ideal S512x256 .bf16) (p : Fin 4 → FVec Ideal S128x512 .bf16) (e : Fin 4 → FVec Ideal S128x128 .f32) (g : Fin 4) (i n : Fin 128) :
    ratio v (p 0) (p 1) (p 2) (p 3) (e 0) (e 1) (e 2) (e 3) (ix2 ⟨128 * g.val + i.val, by omega⟩ n)
      = Ideal.div (∑ k : Fin 512, p g (ix2 i k) * v (ix2 k ⟨n.val, by omega⟩)) ((∑ k : Fin 512, p g (ix2 i k) * v (ix2 k ⟨128 + n.val, by omega⟩)) + e g (ix2 i n)) := by
  pointwise [ratio]
  have hp (k : Fin 512) := pick (fun g' i' => p g' (ix2 i' k)) g i
  have he := pick (fun g' i' => e g' (ix2 i' n)) g i
  refine congrArg₂ Ideal.div (Finset.sum_congr rfl fun k _ => congrArg (· * v (ix2 k ⟨n.val, _⟩)) (hp k))
    (congrArg₂ (· + ·) (Finset.sum_congr rfl fun k _ => congrArg (· * v (ix2 k ⟨128 + n.val, _⟩)) (hp k)) he)

theorem slices_keys (p : Fin 2) : S256x512.Slices ![0, 128 * p.val] S256x128 := by revert p; decide
theorem slices_values (p : Fin 2) : S256x512.Slices ![0, 256 + 128 * p.val] S256x128 := by revert p; decide
theorem slices_prev (g : Fin 4) (u : Fin 2) : S512x512.Slices ![128 * g.val, 256 * u.val] S128x128 := by revert g u; decide
theorem slices_cur (g : Fin 4) (u : Fin 2) : S512x512.Slices ![128 * g.val, 256 * u.val + 128] S128x128 := by revert g u; decide
theorem slices_tile (g : Fin 4) : S512x128.Slices ![128 * g.val, 0] S128x128 := by revert g; decide

section Group

variable (kv : FVec Ideal S256x512 .bf16) (p : Fin 2) (q : Fin 4 → FVec Ideal S128x128 .bf16) (b : Fin 4 → Fin 2 → Vec Ideal S1x1x128x128 .f32) (s : Fin 4 → Fin 2 → EReal)

def products : FVec Ideal S512x512 .f32 := logits (keysBd kv (128 * p.val) (slices_keys p)) (q 0) (q 1) (q 2) (q 3)

def scores (g : Fin 4) (u : Fin 2) : FVec Ideal S128x128 .f32 :=
  folded (products kv p q) (128 * g.val) (256 * u.val) (slices_prev g u) (slices_cur g u) (b g u)

def tops (g : Fin 4) (u : Fin 2) : FVec Ideal S128x1 .f32 := rowMax (scores kv p q b g u) (s g u)

def powers (g : Fin 4) (u : Fin 2) : FVec Ideal S128x128 .bf16 := weights (scores kv p q b g u) (tops kv p q b s g u)

def bandRow (g : Fin 4) : FVec Ideal S128x512 .bf16 := bands (powers kv p q b s g 0) (powers kv p q b s g 1)

def sinks (g : Fin 4) : FVec Ideal S128x128 .f32 := sinkRow (s g 0) (s g 1) (tops kv p q b s g 0) (tops kv p q b s g 1)

/-- The attention of four tiles of two heads each. -/
def group : FVec Ideal S512x128 .f32 :=
  ratio (valuesBd kv (256 + 128 * p.val) (slices_values p)) (bandRow kv p q b s 0) (bandRow kv p q b s 1) (bandRow kv p q b s 2) (bandRow kv p q b s 3)
    (sinks kv p q b s 0) (sinks kv p q b s 1) (sinks kv p q b s 2) (sinks kv p q b s 3)

/-- The key of the band that one of the 128 folded columns stands for. -/
def unfold (i c : Fin 128) : Fin 256 := if c.val ≤ i.val then ⟨128 + c.val, by omega⟩ else ⟨c.val, by omega⟩

theorem products_apply (g : Fin 4) (u : Fin 2) (i : Fin 128) (j : Fin 256) :
    products kv p q (ix2 ⟨128 * g.val + i.val, by omega⟩ ⟨256 * u.val + j.val, by omega⟩)
      = ∑ d : Fin 64, q g (ix2 i ⟨64 * u.val + d.val, by omega⟩) * kv (ix2 j ⟨128 * p.val + (64 * u.val + d.val), by omega⟩) := by
  unfold products
  rw [logits_apply, sum_lanes, sum_own u]
  · refine Finset.sum_congr rfl fun d _ => ?_
    rw [keysBd_apply _ _ _ (by omega), if_pos (by (try simp only []); omega)]
  · intro v hv
    refine Finset.sum_eq_zero fun d _ => ?_
    rw [keysBd_apply _ _ _ (by omega), if_neg (by intro h; apply hv; apply Fin.ext; (try simp only [] at h); omega), mul_zero]

theorem scores_apply (g : Fin 4) (u : Fin 2) (i c : Fin 128) :
    scores kv p q b g u (ix2 i c)
      = (∑ d : Fin 64, q g (ix2 i ⟨64 * u.val + d.val, by omega⟩) * kv (ix2 (unfold i c) ⟨128 * p.val + (64 * u.val + d.val), by omega⟩)) + b g u (ix4 0 0 i c) := by
  unfold scores
  rw [folded_apply _ _ _ _ _ _ (by omega) (by omega)]
  refine congrArg (· + b g u (ix4 0 0 i c)) ?_
  rw [← products_apply]
  unfold unfold
  split_ifs
  · refine congrArg (products kv p q) (congrArg (ix2 _) (Fin.ext ?_))
    (try simp only []); omega
  · rfl

theorem tops_apply (g : Fin 4) (u : Fin 2) (i : Fin 128) :
    tops kv p q b s g u (ix2 i 0) = max (Finset.univ.sup fun c : Fin 128 => scores kv p q b g u (ix2 i c)) (s g u) := rowMax_apply _ _ _

theorem bandRow_sum (g : Fin 4) (i : Fin 128) (f : Fin 512 → EReal) :
    ∑ k : Fin 512, bandRow kv p q b s g (ix2 i k) * f k
      = ∑ u : Fin 2, ∑ c : Fin 128, powers kv p q b s g u (ix2 i c) * f ⟨256 * u.val + (unfold i c).val, by omega⟩ := by
  rw [sum_bands]
  refine Finset.sum_congr rfl fun u _ => ?_
  rw [Finset.sum_comm]
  refine Finset.sum_congr rfl fun c _ => ?_
  have hu : (if u.val = 0 then powers kv p q b s g 0 else powers kv p q b s g 1) = powers kv p q b s g u := by
    split_ifs with h
    · rw [show u = 0 from Fin.ext h]
    · rw [show u = 1 from Fin.ext (by show u.val = 1; omega)]
  rw [sum_own (if c.val ≤ i.val then 1 else 0)]
  · unfold bandRow unfold
    rw [bands_apply, hu]
    split_ifs with h1 h2
    · refine congrArg (powers kv p q b s g u (ix2 i c) * f ·) (Fin.ext ?_)
      show 256 * u.val + 128 * 1 + c.val = 256 * u.val + (128 + c.val); omega
    · exact absurd (by simp [h1]) h2
    · refine congrArg (powers kv p q b s g u (ix2 i c) * f ·) (Fin.ext ?_)
      show 256 * u.val + 128 * 0 + c.val = 256 * u.val + c.val; omega
    · rename_i h3
      exact absurd (by simp [h1]) h3
  · intro w hw
    unfold bandRow
    rw [bands_apply, if_neg, zero_mul]
    intro h
    apply hw
    split_ifs with h1
    · exact Fin.ext (h.mp h1)
    · refine Fin.ext ?_
      have : ¬ w.val = 1 := fun e => h1 (h.mpr e)
      show w.val = 0
      omega

/-- One entry of the attention: the weighted values over the sum of the weights, the sink's among them. -/
theorem group_apply (g : Fin 4) (i n : Fin 128) (u : Fin 2) (hu : n.val / 64 = u.val) :
    group kv p q b s (ix2 ⟨128 * g.val + i.val, by omega⟩ n)
      = Ideal.div (∑ c : Fin 128, powers kv p q b s g u (ix2 i c) * kv (ix2 (unfold i c) ⟨256 + 128 * p.val + n.val, by omega⟩))
        ((∑ c : Fin 128, powers kv p q b s g u (ix2 i c)) + Ideal.exp2 (s g u - tops kv p q b s g u (ix2 i 0))) := by
  unfold group
  rw [ratio_apply _ (bandRow kv p q b s) (sinks kv p q b s), bandRow_sum, bandRow_sum, sum_own u, sum_own u]
  · refine congrArg₂ Ideal.div (Finset.sum_congr rfl fun c _ => ?_) (congrArg₂ (· + ·) (Finset.sum_congr rfl fun c _ => ?_) ?_)
    · rw [valuesBd_apply _ _ _ (by omega), keysBd_apply _ _ _ (by omega), if_pos hu]
    · rw [ones_apply _ _ _ (by omega), if_pos hu, mul_one]
    · unfold sinks
      rw [sinkRow_apply]
      split_ifs with h
      · rw [show u = 0 from Fin.ext (by show u.val = 0; omega)]
      · rw [show u = 1 from Fin.ext (by show u.val = 1; omega)]
  · intro v hv
    refine Finset.sum_eq_zero fun c _ => ?_
    rw [ones_apply _ _ _ (by omega), if_neg (fun e => hv (Fin.ext (e.symm.trans hu))), mul_zero]
  · intro v hv
    refine Finset.sum_eq_zero fun c _ => ?_
    rw [valuesBd_apply _ _ _ (by omega), keysBd_apply _ _ _ (by omega), if_neg (fun e => hv (Fin.ext (e.symm.trans hu))), mul_zero]

end Group

end Cert.KernelIdeal.Attn

end
-- ==== Proof.Softmax.lean ====
/- The softmax over the keys with a sink, and the two ways it is written. -/
module

public import proofs.«01_k».proof.Proof.Ext

@[expose] public section

noncomputable section

open Idealize.ShloMosaic

namespace Cert.Softmax

variable {ι : Type*} [Fintype ι]

/-- The weighted sum of the values, the weights the exponentials of the logits over their sum, a sink's among them. -/
def attend (L : ι → EReal) (S : EReal) (v : ι → EReal) : EReal :=
  Ideal.div (∑ c, Ideal.exp (L c) * v c) ((∑ c, Ideal.exp (L c)) + Ideal.exp S)

/-- The exponential of an extended real that is not infinite from above. -/
theorem exp_real {x : EReal} (h : x ≠ ⊤) : ∃ e : ℝ, 0 ≤ e ∧ Ideal.exp x = (e : EReal) := by
  induction x using EReal.rec with
  | bot => exact ⟨0, le_refl _, rfl⟩
  | coe r => exact ⟨Real.exp r, (Real.exp_pos r).le, rfl⟩
  | top => exact absurd rfl h

theorem coe_sum (e : ι → ℝ) : (∑ c, ((e c : ℝ) : EReal)) = ((∑ c, e c : ℝ) : EReal) := by
  classical
  refine Finset.induction_on (Finset.univ : Finset ι) (by simp) fun a t ha ih => ?_
  rw [Finset.sum_insert ha, Finset.sum_insert ha, ih, EReal.coe_add]

section Shift

variable (L : ι → EReal) (S : ℝ) (v : ι → EReal) (hL : ∀ c, L c ≠ ⊤) (k : ℝ) (hk : 0 < k) (pw : ι → EReal) (ps : EReal)
  (hp : ∀ c, pw c = Ideal.exp (L c) * (k : EReal)) (hs : ps = Ideal.exp (S : EReal) * (k : EReal))

include hL hk hp hs in
/-- The sum of the weights, scaled. -/
theorem den : ∃ (e : ι → ℝ) (w : ℝ), 0 < w ∧ (∀ c, 0 ≤ e c) ∧ (∀ c, Ideal.exp (L c) = (e c : EReal)) ∧ ((∑ c, Ideal.exp (L c)) + Ideal.exp (S : EReal)) = (w : EReal)
    ∧ (∑ c, pw c) + ps = ((w * k : ℝ) : EReal) := by
  choose e he0 he using fun c => exp_real (hL c)
  have hS : Ideal.exp (S : EReal) = ((Real.exp S : ℝ) : EReal) := rfl
  refine ⟨e, (∑ c, e c) + Real.exp S, ?_, he0, he, ?_, ?_⟩
  · have := Finset.sum_nonneg (s := Finset.univ) fun c _ => he0 c
    have := Real.exp_pos S
    linarith
  · simp only [he, hS, coe_sum, ← EReal.coe_add]
  · simp only [hp, hs, he, hS, ← EReal.coe_mul, coe_sum, ← EReal.coe_add]
    rw [← Finset.sum_mul, add_mul]

include hL hk hp hs in
/-- Dividing the sum. -/
theorem of_shift : Ideal.div (∑ c, pw c * v c) ((∑ c, pw c) + ps) = attend L S v := by
  obtain ⟨e, w, hw, he0, he, h1, h2⟩ := den L S hL k hk pw ps hp hs
  unfold attend
  rw [h1, h2, Ideal.div_coe hw.ne', Ideal.div_coe (mul_pos hw hk).ne']
  have : (∑ c, pw c * v c) = (∑ c, Ideal.exp (L c) * v c) * (k : EReal) := by
    rw [Ext.sum_mul_coe _ _ hk.le]
    exact Finset.sum_congr rfl fun c _ => by rw [hp, mul_right_comm]
  rw [this, mul_assoc, ← EReal.coe_mul]
  congr 2
  field_simp

include hL hk hp hs in
/-- Dividing every weight. -/
theorem of_weights : (∑ c, Ideal.div (pw c) ((∑ c, pw c) + ps) * v c) = attend L S v := by
  obtain ⟨e, w, hw, he0, he, h1, h2⟩ := den L S hL k hk pw ps hp hs
  unfold attend
  rw [h1, h2, Ideal.div_coe hw.ne', Ext.sum_mul_coe _ _ (by positivity)]
  refine Finset.sum_congr rfl fun c _ => ?_
  have hk' : k * (1 / (w * k)) = 1 / w := by field_simp
  rw [Ideal.div_coe (mul_pos hw hk).ne', hp, mul_assoc (Ideal.exp (L c)), ← EReal.coe_mul, hk', mul_right_comm]

end Shift

/-- The largest of finitely many logits, a real sink among them, is real. -/
theorem top_real (L : ι → EReal) (S : ℝ) (hL : ∀ c, L c ≠ ⊤) : ∃ μ : ℝ, max (Finset.univ.sup L) (S : EReal) = (μ : EReal) := by
  have h1 : max (Finset.univ.sup L) (S : EReal) ≠ ⊤ := by
    refine ne_of_lt (max_lt ?_ (EReal.coe_lt_top S))
    exact (Finset.sup_lt_iff (bot_lt_top)).mpr fun c _ => lt_top_iff_ne_top.mpr (hL c)
  have h2 : max (Finset.univ.sup L) (S : EReal) ≠ ⊥ := fun e => by
    have := le_max_right (Finset.univ.sup L) (S : EReal)
    rw [e] at this
    exact EReal.coe_ne_bot S (le_bot_iff.mp this)
  exact ⟨_, (EReal.coe_toReal h1 h2).symm⟩

theorem exp_sub {x : EReal} (h : x ≠ ⊤) (μ : ℝ) : Ideal.exp (x - (μ : EReal)) = Ideal.exp x * ((Real.exp (-μ) : ℝ) : EReal) := by
  induction x using EReal.rec with
  | bot => rw [EReal.bot_sub]; show (0 : EReal) = 0 * _; rw [zero_mul]
  | coe r =>
    rw [← EReal.coe_sub]
    show ((Real.exp (r - μ) : ℝ) : EReal) = ((Real.exp r : ℝ) : EReal) * _
    rw [← EReal.coe_mul, ← Real.exp_add, sub_eq_add_neg]
  | top => exact absurd rfl h

theorem log_two : 0 < Real.log 2 := Real.log_pos (by norm_num)

theorem exp2_sub {x : EReal} (h : x ≠ ⊤) (μ : ℝ) :
    Ideal.exp2 (x * ((1 / Real.log 2 : ℝ) : EReal) - (μ : EReal)) = Ideal.exp x * ((Real.exp (-(μ * Real.log 2)) : ℝ) : EReal) := by
  induction x using EReal.rec with
  | bot =>
    rw [EReal.bot_mul_coe_of_pos (by have := log_two; positivity), EReal.bot_sub]
    show (0 : EReal) = 0 * _
    rw [zero_mul]
  | coe r =>
    rw [← EReal.coe_mul, ← EReal.coe_sub, Ideal.exp2_coe]
    show _ = ((Real.exp r : ℝ) : EReal) * _
    rw [← EReal.coe_mul, ← Real.exp_add, show Real.rpow 2 (r * (1 / Real.log 2) - μ) = Real.exp (Real.log 2 * (r * (1 / Real.log 2) - μ)) from
      Real.rpow_def_of_pos (by norm_num) _]
    congr 2
    have := log_two
    field_simp
    ring
  | top => exact absurd rfl h

/-- The softmax in the units of the binary logarithm, divided at the end. -/
theorem binary (L : ι → EReal) (S : ℝ) (v : ι → EReal) (hL : ∀ c, L c ≠ ⊤) (lg : ι → EReal) (sk : EReal)
    (hl : ∀ c, lg c = L c * ((1 / Real.log 2 : ℝ) : EReal)) (hs : sk = (S : EReal) * ((1 / Real.log 2 : ℝ) : EReal)) :
    Ideal.div (∑ c, Ideal.exp2 (lg c - max (Finset.univ.sup lg) sk) * v c)
      ((∑ c, Ideal.exp2 (lg c - max (Finset.univ.sup lg) sk)) + Ideal.exp2 (sk - max (Finset.univ.sup lg) sk)) = attend L S v := by
  have hlg : ∀ c, lg c ≠ ⊤ := by
    intro c
    rw [hl]
    have := hL c
    generalize L c = x at this
    induction x using EReal.rec with
    | bot => rw [EReal.bot_mul_coe_of_pos (by have := log_two; positivity)]; exact bot_ne_top
    | coe r => rw [← EReal.coe_mul]; exact EReal.coe_ne_top _
    | top => exact absurd rfl this
  obtain ⟨μ, hμ⟩ := top_real lg (S * (1 / Real.log 2)) hlg
  rw [← hs.trans (EReal.coe_mul _ _).symm] at hμ
  rw [hμ]
  refine of_shift L S v hL (Real.exp (-(μ * Real.log 2))) (Real.exp_pos _) (fun c => Ideal.exp2 (lg c - (μ : EReal))) _ ?_ ?_
  · intro c; rw [hl]; exact exp2_sub (hL c) μ
  · rw [hs]; exact exp2_sub (EReal.coe_ne_top S) μ

/-- The softmax with every weight divided. -/
theorem natural (L : ι → EReal) (S : ℝ) (v : ι → EReal) (hL : ∀ c, L c ≠ ⊤) :
    (∑ c, Ideal.div (Ideal.exp (L c - max (Finset.univ.sup L) (S : EReal)))
      ((∑ c, Ideal.exp (L c - max (Finset.univ.sup L) (S : EReal))) + Ideal.exp ((S : EReal) - max (Finset.univ.sup L) (S : EReal))) * v c) = attend L S v := by
  obtain ⟨μ, hμ⟩ := top_real L S hL
  rw [hμ]
  exact of_weights L S v hL (Real.exp (-μ)) (Real.exp_pos _) (fun c => Ideal.exp (L c - (μ : EReal))) _ (fun c => exp_sub (hL c) μ) (exp_sub (EReal.coe_ne_top S) μ)

/-- Keys left out of the attention, whose logits are infinite from below, can be left out of the sums. -/
theorem attend_comp {ι' : Type*} [Fintype ι'] (f : ι' → ι) (hf : Function.Injective f) (L : ι → EReal) (S : EReal) (v : ι → EReal)
    (h : ∀ j, (∀ c, f c ≠ j) → L j = ⊥) : attend (fun c => L (f c)) S (fun c => v (f c)) = attend L S v := by
  have sums (g : ι → EReal) (hg : ∀ j, L j = ⊥ → g j = 0) : (∑ c, g (f c)) = ∑ j, g j := by
    classical
    rw [← Finset.sum_image (s := Finset.univ) (g := f) fun a _ b _ e => hf e]
    refine Finset.sum_subset (Finset.subset_univ _) fun j _ hj => hg j (h j fun c e => hj ?_)
    exact Finset.mem_image.mpr ⟨c, Finset.mem_univ _, e⟩
  unfold attend
  rw [sums (fun j => Ideal.exp (L j) * v j) fun j e => by rw [e]; exact zero_mul _, sums (fun j => Ideal.exp (L j)) fun j e => by rw [e]; rfl]

end Cert.Softmax

end
-- ==== Proof.AttnSpec.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.AttnPair
public import proofs.«01_k».proof.Proof.Softmax

@[expose] public section

set_option maxRecDepth 16384

noncomputable section

open Idealize.ShloMosaic Idealize.ShloMosaic.TcCoe Idealize.SL.Sem
open Idealize.ShloMosaic.Pipeline (Dat)

/-! The attention over the arguments, in the kernel's order of heads. -/

namespace Cert.KernelIdeal.Attn

open Cert.KernelIdeal

/-- The bucket of a distance below 128: the distance itself up to 15, then the number of the logarithmic step. -/
def bucketOf (d : Nat) : Nat :=
  if d < 16 then d else 15 + ([16, 19, 21, 24, 27, 31, 35, 40, 46, 52, 59, 67, 77, 87, 99, 113].filter (· ≤ d)).length

theorem bucketOf_lt : ∀ d : Fin 128, bucketOf d.val < 32 := by decide +kernel

/-- How far back the key of a folded column lies. -/
def dist (i c : Fin 128) : Fin 128 := ⟨128 + i.val - (unfold i c).val, by unfold unfold; split_ifs <;> (try simp only []) <;> omega⟩

def bucket (i c : Fin 128) : Fin 32 := ⟨bucketOf (dist i c).val, bucketOf_lt _⟩

variable (P : Vec Ideal S4x8192x8704 .f32) (Sk : Vec Ideal S16 .f32) (T : Vec Ideal S32x16 .f32)

/-- One entry of the projection. -/
def entry (R : Fin 32768) (n : Fin 8704) : EReal := P (ix3 ⟨R.val / 8192, by omega⟩ ⟨R.val % 8192, by omega⟩ n)

/-- A row of a block of 128 queries, and a row of the band of keys it attends to. -/
def queryRow (N : Fin 256) (r : Fin 128) : Fin 32768 := ⟨128 * N.val + r.val, by omega⟩

def keyRow (N : Fin 256) (j : Fin 256) : Fin 32768 :=
  if j.val < 128 then ⟨128 * (N.val - 1) + j.val, by omega⟩ else ⟨128 * N.val + (j.val - 128), by omega⟩

def headOf (p : Fin 2) (g : Fin 4) (u : Fin 2) : Fin 16 := ⟨8 * p.val + (4 * u.val + g.val), by omega⟩

/-- The product of a query with the key of one folded column. -/
def product (N : Fin 256) (r : Fin 128) (p u : Fin 2) (g : Fin 4) (c : Fin 128) : EReal :=
  ∑ e : Fin 64, entry P (queryRow N r) ⟨2048 + (64 * (8 * p.val + (4 * u.val + g.val)) + e.val), by omega⟩
    * entry P (keyRow N (unfold r c)) ⟨3072 + (128 * p.val + (64 * u.val + e.val)), by omega⟩

/-- The logit of one key; the first block of a sequence has no block before it. -/
def logit (N : Fin 256) (r : Fin 128) (p u : Fin 2) (g : Fin 4) (c : Fin 128) : EReal :=
  if N.val % 64 = 0 ∧ ¬ c.val ≤ r.val then ⊥ else product P N r p u g c * ((1 / 8 : ℝ) : EReal) + T (ix2 (bucket r c) (headOf p g u))

def gate (N : Fin 256) (r : Fin 128) (p u : Fin 2) (g : Fin 4) (d : Fin 64) : EReal :=
  entry P (queryRow N r) ⟨3584 + (64 * (8 * p.val + (4 * u.val + g.val)) + d.val), by omega⟩

def attention (N : Fin 256) (r : Fin 128) (p u : Fin 2) (g : Fin 4) (d : Fin 64) : EReal :=
  Softmax.attend (logit P T N r p u g) (Sk (ix1 (headOf p g u))) (fun c => entry P (keyRow N (unfold r c)) ⟨3328 + (128 * p.val + (64 * u.val + d.val)), by omega⟩)
    * (gate P N r p u g d * Ideal.logistic (gate P N r p u g d))

/-- The result, entry by entry. -/
def result : Vec Ideal S32768x1024 .bf16 := fun j =>
  attention P Sk T ⟨(j 0).val / 128, by have : (j 0).val < 32768 := (j 0).isLt; omega⟩ ⟨(j 0).val % 128, by omega⟩ ⟨(j 1).val / 512, by have : (j 1).val < 1024 := (j 1).isLt; omega⟩
    ⟨(j 1).val / 64 % 2, by omega⟩ ⟨(j 1).val / 128 % 4, by omega⟩ ⟨(j 1).val % 64, by omega⟩

theorem result_apply (N : Fin 256) (r : Fin 128) (p u : Fin 2) (g : Fin 4) (d : Fin 64) :
    result P Sk T (ix2 ⟨128 * N.val + r.val, by omega⟩ ⟨128 * (4 * p.val + g.val) + (64 * u.val + d.val), by omega⟩) = attention P Sk T N r p u g d := by
  have congr {N N' : Fin 256} {r r' : Fin 128} {p p' u u' : Fin 2} {g g' : Fin 4} {d d' : Fin 64} (h1 : N.val = N'.val) (h2 : r.val = r'.val) (h3 : p.val = p'.val) (h4 : u.val = u'.val)
      (h5 : g.val = g'.val) (h6 : d.val = d'.val) : attention P Sk T N r p u g d = attention P Sk T N' r' p' u' g' d' := by
    obtain rfl := Fin.ext h1
    obtain rfl := Fin.ext h2
    obtain rfl := Fin.ext h3
    obtain rfl := Fin.ext h4
    obtain rfl := Fin.ext h5
    obtain rfl := Fin.ext h6
    rfl
  refine congr ?_ ?_ ?_ ?_ ?_ ?_
  · show (128 * N.val + r.val) / 128 = N.val; omega
  · show (128 * N.val + r.val) % 128 = r.val; omega
  · show (128 * (4 * p.val + g.val) + (64 * u.val + d.val)) / 512 = p.val; omega
  · show (128 * (4 * p.val + g.val) + (64 * u.val + d.val)) / 64 % 2 = u.val; omega
  · show (128 * (4 * p.val + g.val) + (64 * u.val + d.val)) / 128 % 4 = g.val; omega
  · show (128 * (4 * p.val + g.val) + (64 * u.val + d.val)) % 64 = d.val; omega

/-- Every entry of the result is one of these. -/
theorem split_index (R : Fin 32768) (n : Fin 1024) : ∃ (N : Fin 256) (r : Fin 128) (p u : Fin 2) (g : Fin 4) (d : Fin 64),
    R = ⟨128 * N.val + r.val, by omega⟩ ∧ n = ⟨128 * (4 * p.val + g.val) + (64 * u.val + d.val), by omega⟩ := by
  refine ⟨⟨R.val / 128, by omega⟩, ⟨R.val % 128, by omega⟩, ⟨n.val / 512, by omega⟩, ⟨n.val / 64 % 2, by omega⟩, ⟨n.val / 128 % 4, by omega⟩, ⟨n.val % 64, by omega⟩, Fin.ext ?_, Fin.ext ?_⟩
    <;> (try simp only []) <;> omega

/-- The arguments whose infinities would make the softmax undefined are real. -/
structure Finite : Prop where
  proj : ∀ (R : Fin 32768) (n : Fin 8704), 2048 ≤ n.val → n.val < 3328 → ∃ x : ℝ, entry P R n = (x : EReal)
  sinks : ∀ h : Fin 16, ∃ x : ℝ, Sk (ix1 h) = (x : EReal)
  table : ∀ (b : Fin 32) (h : Fin 16), ∃ x : ℝ, T (ix2 b h) = (x : EReal)

variable {P Sk T}

theorem Finite.product (hf : Finite P Sk T) (N : Fin 256) (r : Fin 128) (p u : Fin 2) (g : Fin 4) (c : Fin 128) :
    ∃ a b : Fin 64 → ℝ, (∀ e : Fin 64, entry P (queryRow N r) ⟨2048 + (64 * (8 * p.val + (4 * u.val + g.val)) + e.val), by omega⟩ = (a e : EReal))
      ∧ (∀ e : Fin 64, entry P (keyRow N (unfold r c)) ⟨3072 + (128 * p.val + (64 * u.val + e.val)), by omega⟩ = (b e : EReal)) := by
  choose a ha using fun e : Fin 64 => hf.proj (queryRow N r) ⟨2048 + (64 * (8 * p.val + (4 * u.val + g.val)) + e.val), by omega⟩ (by simp only []; omega) (by simp only []; omega)
  choose b hb using fun e : Fin 64 => hf.proj (keyRow N (unfold r c)) ⟨3072 + (128 * p.val + (64 * u.val + e.val)), by omega⟩ (by simp only []; omega) (by simp only []; omega)
  exact ⟨a, b, ha, hb⟩

theorem Finite.logit (hf : Finite P Sk T) (N : Fin 256) (r : Fin 128) (p u : Fin 2) (g : Fin 4) (c : Fin 128) : logit P T N r p u g c ≠ ⊤ := by
  unfold Attn.logit
  split_ifs
  · exact bot_ne_top
  · obtain ⟨a, b, ha, hb⟩ := hf.product N r p u g c
    obtain ⟨x, hx⟩ := hf.table (bucket r c) (headOf p g u)
    unfold Attn.product
    simp only [ha, hb, hx, ← EReal.coe_mul, Softmax.coe_sum, ← EReal.coe_add]
    exact EReal.coe_ne_top _

/-- The kernel's logit is the reference's in units of the binary logarithm. -/
theorem Finite.binary (hf : Finite P Sk T) (N : Fin 256) (r : Fin 128) (p u : Fin 2) (g : Fin 4) (c : Fin 128) :
    (∑ e : Fin 64, entry P (queryRow N r) ⟨2048 + (64 * (8 * p.val + (4 * u.val + g.val)) + e.val), by omega⟩ * ((1 / 8 * (1 / Real.log 2) : ℝ) : EReal)
        * entry P (keyRow N (unfold r c)) ⟨3072 + (128 * p.val + (64 * u.val + e.val)), by omega⟩)
      + (if N.val % 64 = 0 ∧ ¬ c.val ≤ r.val then ⊥ else T (ix2 (bucket r c) (headOf p g u)) * ((1 / Real.log 2 : ℝ) : EReal))
      = Attn.logit P T N r p u g c * ((1 / Real.log 2 : ℝ) : EReal) := by
  unfold Attn.logit
  split_ifs
  · rw [EReal.add_bot, EReal.bot_mul_coe_of_pos (by have := Softmax.log_two; positivity)]
  · obtain ⟨a, b, ha, hb⟩ := hf.product N r p u g c
    obtain ⟨x, hx⟩ := hf.table (bucket r c) (headOf p g u)
    unfold Attn.product
    simp only [ha, hb, hx, ← EReal.coe_mul, Softmax.coe_sum, ← EReal.coe_add]
    congr 1
    rw [add_mul, Finset.sum_mul, Finset.sum_mul]
    congr 1
    exact Finset.sum_congr rfl fun e _ => by ring

end Cert.KernelIdeal.Attn

end
-- ==== Proof.AttnTiles.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.AttnSpec

@[expose] public section

set_option maxRecDepth 16384

noncomputable section

open Idealize.ShloMosaic Idealize.ShloMosaic.TcCoe Idealize.SL.Sem
open Idealize.ShloMosaic.Pipeline (Dat)

/-! The 64 tiles the kernel stores at one grid point, and the 32 it keeps of the bias at the first. -/

namespace Cert.KernelIdeal.Attn

open Cert.KernelIdeal Cert.KernelIdeal.Gen Cert.KernelIdeal.Value

theorem inb_q (s : Fin 8) (p : Fin 2) (g : Fin 4) :
    ∀ a, (![128 * s.val, 128 * (4 * p.val + g.val)] : Fin 2 → Nat) a + S128x128.size a ≤ S1024x1024.size a := by
  revert s p g; decide

theorem inb_kv (s : Nat) (h : s < 7) : ∀ a, (![128 * s, 0] : Fin 2 → Nat) a + S256x512.size a ≤ S1024x512.size a := by
  intro a
  fin_cases a
  · show 128 * s + 256 ≤ 1024; omega
  · show 0 + 512 ≤ 512; omega

theorem inb_bias (v : Nat) (hv : v < 2) (p : Fin 2) (g : Fin 4) (u : Fin 2) :
    ∀ a, (![v, p.val, 128 * g.val, 128 * u.val] : Fin 4 → Nat) a + S1x1x128x128.size a ≤ S2x2x512x256.size a := by
  intro a
  fin_cases a
  · show v + 1 ≤ 2; omega
  · show p.val + 1 ≤ 2; omega
  · show 128 * g.val + 128 ≤ 512; omega
  · show 128 * u.val + 128 ≤ 256; omega

theorem inb_sink (p : Fin 2) (g : Fin 4) (u : Fin 2) : ∀ a, (![8 * p.val + (4 * u.val + g.val)] : Fin 1 → Nat) a + S1.size a ≤ S16.size a := by
  revert p g u; decide

theorem inb_tab (b : Fin 32) (h : Fin 16) : ∀ a, (![b.val, h.val] : Fin 2 → Nat) a + S1x1.size a ≤ S32x16.size a := by
  intro a
  fin_cases a
  · show b.val + 1 ≤ 32; omega
  · show h.val + 1 ≤ 16; omega

/-- How a tile of the bias is read: the offsets of the tile, within the scratch. -/
abbrev BiasRead := (off : Fin 4 → Nat) → (∀ a, off a + S1x1x128x128.size a ≤ S2x2x512x256.size a) → Vec Ideal S1x1x128x128 .f32

section Tiles

variable (i : grid0.Coords) (x1 : Vec Ideal S16 .f32) (x3 x4 : Vec Ideal S1024x1024 .bf16) (x5 : Vec Ideal S1024x512 .bf16) (x6 : Vec Ideal S128x512 .bf16) (B : BiasRead)

/-- Which half of the bias scratch the first block of queries reads. -/
def variant : Nat := k0_off1 i 0

theorem variant_lt : variant i < 2 := Nat.lt_of_succ_le (k0_off1_inb i 0)

/-- The keys and values one block of queries attends to: the block before and its own. -/
def keyBlock : (s : Nat) → s < 8 → FVec Ideal S256x512 .bf16
  | 0, _ => k0_pay230 (View.ld x6 (Rect.unit (s := S128x512) ![0, 0] S128x512.size inb_S128x512_S128x512_0_0)) (View.ld x5 (Rect.unit (s := S1024x512) ![0, 0] S128x512.size inb_S1024x512_S128x512_0_0))
  | s + 1, h => shapeCast S256x512 (View.ld x5 (Rect.unit (s := S1024x512) ![128 * s, 0] S256x512.size (inb_kv s (by omega)))) shapeCasts_S256x512_S256x512

/-- The offsets at which the first block of queries reads its tiles of the bias. -/
def firstOff (p : Fin 2) (g : Fin 4) (u : Fin 2) : Fin 4 → Nat :=
  (![k0_off1 i, k0_off2 i, k0_off3 i, k0_off4 i, k0_off5 i, k0_off6 i, k0_off7 i, k0_off8 i,
    k0_off9 i, k0_off10 i, k0_off11 i, k0_off12 i, k0_off13 i, k0_off14 i, k0_off15 i, k0_off16 i] : Fin 16 → Fin 4 → Nat) ⟨8 * p.val + (2 * g.val + u.val), by omega⟩

theorem firstOff_eq (p : Fin 2) (g : Fin 4) (u : Fin 2) : firstOff i p g u = ![variant i, p.val, 128 * g.val, 128 * u.val] := by
  fin_cases p <;> fin_cases g <;> fin_cases u <;> (funext a; fin_cases a <;> rfl)

def biasOff : Nat → Fin 2 → Fin 4 → Fin 2 → Fin 4 → Nat
  | 0, p, g, u => firstOff i p g u
  | _ + 1, p, g, u => ![1, p.val, 128 * g.val, 128 * u.val]

theorem biasOff_inb (s : Nat) (p : Fin 2) (g : Fin 4) (u : Fin 2) : ∀ a, biasOff i s p g u a + S1x1x128x128.size a ≤ S2x2x512x256.size a := by
  cases s with
  | zero => intro a; show firstOff i p g u a + _ ≤ _; rw [firstOff_eq]; exact inb_bias _ (variant_lt i) p g u a
  | succ s => exact inb_bias 1 (by decide) p g u

def query (s : Fin 8) (p : Fin 2) (g : Fin 4) : Vec Ideal S128x128 .bf16 :=
  View.ld x3 (Rect.unit (s := S1024x1024) ![128 * s.val, 128 * (4 * p.val + g.val)] S128x128.size (inb_q s p g))

def sink (p : Fin 2) (g : Fin 4) (u : Fin 2) : EReal :=
  Scalar.mulf (F := Ideal) (φ := .f32) (View.ld x1 (Rect.unit (s := S16) ![8 * p.val + (4 * u.val + g.val)] S1.size (inb_sink p g u)) (Shape.Idx.first (s := S1) (by decide)))
    (Named.named (F := Ideal) κ "log2e" 0x3FB8AA3B#32)

/-- One tile: the attention of one pair of heads at one block of queries, gated. -/
def tile (s : Fin 8) (p : Fin 2) (g : Fin 4) : FVec Ideal S128x128 .bf16 :=
  gated (group (keyBlock x5 x6 s.val s.isLt) p (query x3 s p)
      (fun g u => B (biasOff i s.val p g u) (biasOff_inb i s.val p g u)) (sink x1 p))
    (128 * g.val) (slices_tile g) (query x4 s p g)

/-- The 64 tiles, the last stored first. -/
def tiles : List (View.Piece (Elt Ideal) S1024x1024 .bf16) :=
  [7, 6, 5, 4, 3, 2, 1, 0].flatMap fun s : Fin 8 => [1, 0].flatMap fun p : Fin 2 => [3, 2, 1, 0].map fun g : Fin 4 =>
    ⟨Rect.unit (s := S1024x1024) ![128 * s.val, 128 * (4 * p.val + g.val)] S128x128.size (inb_q s p g), tile i x1 x3 x4 x5 x6 B s p g⟩

end Tiles

section Bias

variable (x0 : Vec Ideal S32x16 .f32) (x2 : Vec Ideal S128x256 .i32)

/-- The entry of the table for one bucket and one head, in the kernel's units. -/
def tabEntry (b : Fin 32) (h : Fin 16) : EReal :=
  Scalar.mulf (F := Ideal) (φ := .f32) (View.ld x0 (Rect.unit (s := S32x16) ![b.val, h.val] S1x1.size (inb_tab b h)) (Shape.Idx.first (s := S1x1) (by decide)))
    (Named.named (F := Ideal) κ "log2e" 0x3FB8AA3B#32)

/-- The bias of one head over a band, chosen bucket by bucket. -/
def biasBand (h : Fin 16) : (n : Nat) → n ≤ 32 → FVec Ideal S128x256 .f32
  | 0, _ => broadcast S128x256 (Scalar.ofBits (F := Ideal) .f32 0x00000000#32)
  | n + 1, hn => select (cmpi .eq (View.ld x2 (Rect.unit (s := S128x256) ![0, 0] S128x256.size inb_S128x256_S128x256_0_0)) (broadcast S128x256 (BitVec.ofNat 32 n)))
      (broadcast S128x256 (tabEntry x0 ⟨n, hn⟩ h)) (biasBand h n (Nat.le_of_succ_le hn))

/-- The band folded onto 128 columns. -/
def biasFolded (h : Fin 16) : FVec Ideal S128x128 .f32 :=
  select k0_pay221 (extractStridedSlice S128x128 ![0, 128] (biasBand x0 x2 h 32 (le_refl _)) slices_S128x256_o0_128_S128x128)
    (extractStridedSlice S128x128 ![0, 0] (biasBand x0 x2 h 32 (le_refl _)) slices_S128x256_o0_0_S128x128)

/-- The two tiles of one head: the second is the first with the keys of the block before left out. -/
def biasTile (v : Fin 2) (p : Fin 2) (g : Fin 4) (u : Fin 2) : FVec Ideal S1x1x128x128 .f32 :=
  shapeCast S1x1x128x128 (match v with
    | 0 => select k0_pay221 (biasFolded x0 x2 (headOf p g u)) (broadcast S128x128 (Named.named (F := Ideal) (φ := .f32) κ "mask" 0xF149F2CA#32))
    | 1 => biasFolded x0 x2 (headOf p g u)) shapeCasts_S128x128_S1x1x128x128

def biasTiles : List (View.Piece (Elt Ideal) S2x2x512x256 .f32) :=
  [1, 0].flatMap fun p : Fin 2 => [3, 2, 1, 0].flatMap fun g : Fin 4 => [1, 0].flatMap fun u : Fin 2 => [0, 1].map fun v : Fin 2 =>
    ⟨Rect.unit (s := S2x2x512x256) ![v.val, p.val, 128 * g.val, 128 * u.val] S1x1x128x128.size (inb_bias v.val v.isLt p g u), biasTile x0 x2 v p g u⟩

end Bias

end Cert.KernelIdeal.Attn

end
-- ==== Proof.AttnRun.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.AttnTiles

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen Cert.KernelIdeal.Value

/-- The bias the kernel keeps. -/
def kept (x0 : Vec Ideal S32x16 .f32) (x2 : Vec Ideal S128x256 .i32) : Vec Ideal S2x2x512x256 .f32 :=
  View.canon (Val := Elt Ideal) (s := S2x2x512x256) (e := .f32) (biasTiles x0 x2)

/-- The tiles of a bias kept in the scratch, read back. -/
def readTile (xs : Vec Ideal S2x2x512x256 .f32) : BiasRead := fun off inb =>
  View.ld xs (Rect.unit (s := S2x2x512x256) off S1x1x128x128.size inb)

theorem readCov_read (v : View sig .tc .vmem S2x2x512x256 .f32) (L : List (View.Piece (Elt Ideal) S2x2x512x256 .f32)) :
    (fun off inb => v.readCov L (Rect.unit (s := S2x2x512x256) off S1x1x128x128.size inb).toLoadRect : BiasRead)
      = readTile (View.canon (Val := Elt Ideal) (s := S2x2x512x256) (e := .f32) L) := by
  funext off inb
  exact View.readCov_eq_canon' v L _

set_option maxHeartbeats 400000 in
/-- The tiles of the bias stored at the first point. -/
theorem scratch_A (c : Dev nD) (i : grid0.Coords) (arg2 : Memref sig .tc .smem S32x16 .f32) (harg2 : arg2.IsWhole) (arg3 : Memref sig .tc .smem S16 .f32) (harg3 : arg3.IsWhole) (arg4 : Memref sig .tc .vmem S128x256 .i32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S128x2048 .f32) (harg9 : arg9.IsWhole) (arg10 : Memref sig .tc .vmem S1024x1024 .bf16) (harg10 : arg10.IsWhole) (arg11 : Memref sig .tc .vmem S128x2048 .bf16) (harg11 : arg11.IsWhole) (arg12 : Memref sig .tc .vmem S2x2x512x256 .f32) (harg12 : arg12.IsWhole) (hc0 : cond0_0 i)
    (x0 : Vec Ideal S32x16 .f32) (x1 : Vec Ideal S16 .f32) (x2 : Vec Ideal S128x256 .i32) (x3 : Vec Ideal S1024x1024 .bf16) (x4 : Vec Ideal S1024x1024 .bf16) (x5 : Vec Ideal S1024x512 .bf16) (x6 : Vec Ideal S128x512 .bf16) (x7 : Vec Ideal S128x2048 .f32) :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7).2.2.1 = (biasTiles (arg2.view.read (Elt Ideal) (harg2.unread x0)) (arg4.view.read (Elt Ideal) (harg4.unread x2))) := by
  unfold kernelRun0_A
  frame_open
  sl_kernel_rfl

set_option maxHeartbeats 400000 in
/-- The tiles stored at every point but the first. -/
theorem pieces_B (c : Dev nD) (i : grid0.Coords) (arg2 : Memref sig .tc .smem S32x16 .f32) (harg2 : arg2.IsWhole) (arg3 : Memref sig .tc .smem S16 .f32) (harg3 : arg3.IsWhole) (arg4 : Memref sig .tc .vmem S128x256 .i32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S128x2048 .f32) (harg9 : arg9.IsWhole) (arg10 : Memref sig .tc .vmem S1024x1024 .bf16) (harg10 : arg10.IsWhole) (arg11 : Memref sig .tc .vmem S128x2048 .bf16) (harg11 : arg11.IsWhole) (arg12 : Memref sig .tc .vmem S2x2x512x256 .f32) (harg12 : arg12.IsWhole) (hc0 : ¬cond0_0 i)
    (x0 : Vec Ideal S32x16 .f32) (x1 : Vec Ideal S16 .f32) (x2 : Vec Ideal S128x256 .i32) (x3 : Vec Ideal S1024x1024 .bf16) (x4 : Vec Ideal S1024x1024 .bf16) (x5 : Vec Ideal S1024x512 .bf16) (x6 : Vec Ideal S128x512 .bf16) (x7 : Vec Ideal S128x2048 .f32) (xs0 : Vec Ideal S2x2x512x256 .f32) :
    (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0).1
      = tiles i (arg3.view.read (Elt Ideal) (harg3.unread x1)) (arg5.view.read (Elt Ideal) (harg5.unread x3)) (arg6.view.read (Elt Ideal) (harg6.unread x4))
          (arg7.view.read (Elt Ideal) (harg7.unread x5)) (arg8.view.read (Elt Ideal) (harg8.unread x6))
          (fun off inb => arg12.view.readAt (Elt Ideal) (Rect.unit (s := S2x2x512x256) off S1x1x128x128.size inb).toLoadRect (harg12.unread xs0)) := by
  unfold kernelRun0_B
  frame_open
  sl_kernel_rfl

set_option maxHeartbeats 400000 in
/-- The tiles stored at the first point, which reads back the bias it has just stored. -/
theorem pieces_A (c : Dev nD) (i : grid0.Coords) (arg2 : Memref sig .tc .smem S32x16 .f32) (harg2 : arg2.IsWhole) (arg3 : Memref sig .tc .smem S16 .f32) (harg3 : arg3.IsWhole) (arg4 : Memref sig .tc .vmem S128x256 .i32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S128x2048 .f32) (harg9 : arg9.IsWhole) (arg10 : Memref sig .tc .vmem S1024x1024 .bf16) (harg10 : arg10.IsWhole) (arg11 : Memref sig .tc .vmem S128x2048 .bf16) (harg11 : arg11.IsWhole) (arg12 : Memref sig .tc .vmem S2x2x512x256 .f32) (harg12 : arg12.IsWhole) (hc0 : cond0_0 i)
    (x0 : Vec Ideal S32x16 .f32) (x1 : Vec Ideal S16 .f32) (x2 : Vec Ideal S128x256 .i32) (x3 : Vec Ideal S1024x1024 .bf16) (x4 : Vec Ideal S1024x1024 .bf16) (x5 : Vec Ideal S1024x512 .bf16) (x6 : Vec Ideal S128x512 .bf16) (x7 : Vec Ideal S128x2048 .f32) :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7).1
      = tiles i (arg3.view.read (Elt Ideal) (harg3.unread x1)) (arg5.view.read (Elt Ideal) (harg5.unread x3)) (arg6.view.read (Elt Ideal) (harg6.unread x4))
          (arg7.view.read (Elt Ideal) (harg7.unread x5)) (arg8.view.read (Elt Ideal) (harg8.unread x6))
          (fun off inb => arg12.view.readCov (biasTiles (arg2.view.read (Elt Ideal) (harg2.unread x0)) (arg4.view.read (Elt Ideal) (harg4.unread x2))) (Rect.unit (s := S2x2x512x256) off S1x1x128x128.size inb).toLoadRect) := by
  unfold kernelRun0_A
  frame_open
  sl_kernel_rfl

theorem keep_A (c : Dev nD) (i : grid0.Coords) (arg2 : Memref sig .tc .smem S32x16 .f32) (harg2 : arg2.IsWhole) (arg3 : Memref sig .tc .smem S16 .f32) (harg3 : arg3.IsWhole) (arg4 : Memref sig .tc .vmem S128x256 .i32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S128x2048 .f32) (harg9 : arg9.IsWhole) (arg10 : Memref sig .tc .vmem S1024x1024 .bf16) (harg10 : arg10.IsWhole) (arg11 : Memref sig .tc .vmem S128x2048 .bf16) (harg11 : arg11.IsWhole) (arg12 : Memref sig .tc .vmem S2x2x512x256 .f32) (harg12 : arg12.IsWhole) (hc0 : cond0_0 i)
    (x0 : Vec Ideal S32x16 .f32) (x1 : Vec Ideal S16 .f32) (x2 : Vec Ideal S128x256 .i32) (x3 : Vec Ideal S1024x1024 .bf16) (x4 : Vec Ideal S1024x1024 .bf16) (x5 : Vec Ideal S1024x512 .bf16) (x6 : Vec Ideal S128x512 .bf16) (x7 : Vec Ideal S128x2048 .f32) :
    sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 = kept x0 x2 := by
  unfold sout0_A_0
  rw [View.read_writes_junk_eq_canon, scratch_A]
  simp only [Memref.IsWhole.read_unread]
  rfl

theorem out_A (c : Dev nD) (i : grid0.Coords) (arg2 : Memref sig .tc .smem S32x16 .f32) (harg2 : arg2.IsWhole) (arg3 : Memref sig .tc .smem S16 .f32) (harg3 : arg3.IsWhole) (arg4 : Memref sig .tc .vmem S128x256 .i32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S128x2048 .f32) (harg9 : arg9.IsWhole) (arg10 : Memref sig .tc .vmem S1024x1024 .bf16) (harg10 : arg10.IsWhole) (arg11 : Memref sig .tc .vmem S128x2048 .bf16) (harg11 : arg11.IsWhole) (arg12 : Memref sig .tc .vmem S2x2x512x256 .f32) (harg12 : arg12.IsWhole) (hc0 : cond0_0 i)
    (x0 : Vec Ideal S32x16 .f32) (x1 : Vec Ideal S16 .f32) (x2 : Vec Ideal S128x256 .i32) (x3 : Vec Ideal S1024x1024 .bf16) (x4 : Vec Ideal S1024x1024 .bf16) (x5 : Vec Ideal S1024x512 .bf16) (x6 : Vec Ideal S128x512 .bf16) (x7 : Vec Ideal S128x2048 .f32) :
    out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 = View.canon (Val := Elt Ideal) (s := S1024x1024) (e := .bf16) (tiles i x1 x3 x4 x5 x6 (readTile (kept x0 x2))) := by
  unfold out0_A_8
  rw [View.read_writes_junk_eq_canon, pieces_A]
  rw [readCov_read]
  simp only [Memref.IsWhole.read_unread]
  unfold kept
  rfl

theorem out_B (c : Dev nD) (i : grid0.Coords) (arg2 : Memref sig .tc .smem S32x16 .f32) (harg2 : arg2.IsWhole) (arg3 : Memref sig .tc .smem S16 .f32) (harg3 : arg3.IsWhole) (arg4 : Memref sig .tc .vmem S128x256 .i32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S128x512 .bf16) (harg8 : arg8.IsWhole) (arg9 : Memref sig .tc .vmem S128x2048 .f32) (harg9 : arg9.IsWhole) (arg10 : Memref sig .tc .vmem S1024x1024 .bf16) (harg10 : arg10.IsWhole) (arg11 : Memref sig .tc .vmem S128x2048 .bf16) (harg11 : arg11.IsWhole) (arg12 : Memref sig .tc .vmem S2x2x512x256 .f32) (harg12 : arg12.IsWhole) (hc0 : ¬cond0_0 i)
    (x0 : Vec Ideal S32x16 .f32) (x1 : Vec Ideal S16 .f32) (x2 : Vec Ideal S128x256 .i32) (x3 : Vec Ideal S1024x1024 .bf16) (x4 : Vec Ideal S1024x1024 .bf16) (x5 : Vec Ideal S1024x512 .bf16) (x6 : Vec Ideal S128x512 .bf16) (x7 : Vec Ideal S128x2048 .f32) (xs0 : Vec Ideal S2x2x512x256 .f32) :
    out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 = View.canon (Val := Elt Ideal) (s := S1024x1024) (e := .bf16) (tiles i x1 x3 x4 x5 x6 (readTile xs0)) := by
  unfold out0_B_8
  rw [View.read_writes_junk_eq_canon, pieces_B]
  simp only [Memref.IsWhole.read_unread, View.readAt_eq_ld]
  rfl

end Cert.KernelIdeal.Attn

end
-- ==== Proof.AttnBlock.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.AttnRun

@[expose] public section

set_option maxRecDepth 16384

noncomputable section

open Idealize.ShloMosaic Idealize.ShloMosaic.TcCoe Idealize.SL.Sem
open Idealize.ShloMosaic.Pipeline (Dat)

/-! What the kernel leaves at one grid point: the bias it keeps from the first point on, and the tiles of its block of rows. -/

namespace Cert.KernelIdeal.Attn

open Cert.KernelIdeal Cert.KernelIdeal.Gen Cert.KernelIdeal.Value

variable (m : (ℓ : Loc nD τ sig) → Buf (Elt Ideal) ℓ)

theorem points : cfg0.N = 32 := N_0

theorem point0 : (0 : Nat) < cfg0.N := by rw [points]; decide

/-- The first point's table and buckets. -/
abbrev tab (c : Dev nD) : Vec Ideal S32x16 .f32 := iblk m c 0 ⟨0, point0⟩
abbrev buckets (c : Dev nD) : Vec Ideal S128x256 .i32 := iblk m c 2 ⟨0, point0⟩

/-- The first point stores the bias. -/
theorem scratch_first (c : Dev nD) (t : Fin cfg0.N) (h0 : t.val % 32 = 0) : (outsAt0 m c t.val t.isLt).2.2 = kept (iblk m c 0 t) (iblk m c 2 t) := by
  rw [outsAt0_A m c t h0]
  dsimp only
  exact keep_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (X0_3 m c t) (X0_4 m c t) (iblk m c 5 t) (iblk m c 6 t) (iblk m c 7 t)

/-- Every other point leaves it. -/
theorem scratch_next (c : Dev nD) (t : Fin cfg0.N) (h0 : ¬ t.val % 32 = 0) :
    (outsAt0 m c t.val t.isLt).2.2 = (outsAt0 m c (t.val - 1) (Nat.lt_of_le_of_lt (Nat.sub_le _ _) t.isLt)).2.2 := by
  rw [outsAt0_B m c t h0]
  rfl

/-- At every point the scratch holds the bias stored at the first. -/
theorem scratch (c : Dev nD) (n : Nat) (hn : n < cfg0.N) : (outsAt0 m c n hn).2.2 = kept (tab m c) (buckets m c) := by
  induction n with
  | zero => exact scratch_first m c ⟨0, hn⟩ rfl
  | succ n ih =>
    have h : ¬ (n + 1) % 32 = 0 := by have := lt_of_lt_of_eq hn points; omega
    exact (scratch_next m c ⟨n + 1, hn⟩ h).trans (ih _)

/-- The block of rows one point stores. -/
theorem block (c : Dev nD) (t : Fin cfg0.N) : (outsAt0 m c t.val t.isLt).1
    = View.canon (Val := Elt Ideal) (s := S1024x1024) (e := .bf16) (tiles (grid0.coords t) (iblk m c 1 t) (X0_3 m c t) (X0_4 m c t) (iblk m c 5 t) (iblk m c 6 t)
        (readTile (kept (tab m c) (buckets m c)))) := by
  by_cases h0 : t.val % 32 = 0
  · have ht : t = ⟨0, point0⟩ := Fin.ext (by have := lt_of_lt_of_eq t.isLt points; show t.val = 0; omega)
    subst ht
    rw [outsAt0_A m c ⟨0, point0⟩ h0]
    exact out_A c (grid0.coords ⟨0, point0⟩) (ms0_0 ⟨0, point0⟩) (hs0_0 ⟨0, point0⟩) (ms0_1 ⟨0, point0⟩) (hs0_1 ⟨0, point0⟩) (ms0_2 ⟨0, point0⟩) (hs0_2 ⟨0, point0⟩) (ms0_3 ⟨0, point0⟩) (hs0_3 ⟨0, point0⟩) (ms0_4 ⟨0, point0⟩) (hs0_4 ⟨0, point0⟩) (ms0_5 ⟨0, point0⟩) (hs0_5 ⟨0, point0⟩) (ms0_6 ⟨0, point0⟩) (hs0_6 ⟨0, point0⟩) (ms0_7 ⟨0, point0⟩) (hs0_7 ⟨0, point0⟩) (ms0_8 ⟨0, point0⟩) (hs0_8 ⟨0, point0⟩) (ms0_9 ⟨0, point0⟩) (hs0_9 ⟨0, point0⟩) scM0_0 (Memref.isWhole_whole _) ((hcond0_0 _).mpr h0) (iblk m c 0 ⟨0, point0⟩) (iblk m c 1 ⟨0, point0⟩) (iblk m c 2 ⟨0, point0⟩) (X0_3 m c ⟨0, point0⟩) (X0_4 m c ⟨0, point0⟩) (iblk m c 5 ⟨0, point0⟩) (iblk m c 6 ⟨0, point0⟩) (iblk m c 7 ⟨0, point0⟩)
  · rw [outsAt0_B m c t h0, scratch]
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (X0_3 m c t) (X0_4 m c t) (iblk m c 5 t) (iblk m c 6 t) (iblk m c 7 t) _

end Cert.KernelIdeal.Attn

end
-- ==== Proof.AttnArrays.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.AttnBlock
public import proofs.«01_k».proof.Proof.Ext

@[expose] public section

set_option maxRecDepth 16384

noncomputable section

open Idealize.ShloMosaic Idealize.ShloMosaic.TcCoe Idealize.SL.Sem
open Idealize.ShloMosaic.Pipeline (Dat)

/-! The blocks the kernel reads, and the arrays it leaves. -/

namespace Cert.KernelIdeal.Attn

open Cert.KernelIdeal Cert.KernelIdeal.Gen Cert.KernelIdeal.Value

variable (m : (ℓ : Loc nD τ sig) → Buf (Elt Ideal) ℓ) (ρ : Dev nD → PrngReg)

theorem idx : ∀ t : Fin cfg0.N, win0_0.index t = ![0, 0] ∧ win0_1.index t = ![0] ∧ win0_2.index t = ![0, 0]
    ∧ win0_3.index t = ![t.val, 2] ∧ win0_4.index t = ![t.val, 3] ∧ win0_5.index t = ![t.val, 16] ∧ win0_6.index t = ![8 * t.val - 1, 16]
    ∧ win0_7.index t = ![min t.val 7, 0] ∧ win0_8.index t = ![t.val, 0] ∧ win0_9.index t = ![min t.val 7, 0] :=
  (by decide +kernel : ∀ t : Fin grid0.N, _)

theorem variant_eq : ∀ t : Fin cfg0.N, variant (grid0.coords t) = if t.val % 8 = 0 then 0 else 1 :=
  (by decide +kernel : ∀ t : Fin grid0.N, _)

theorem tab_at (c : Dev nD) (t : Fin cfg0.N) (b : Fin 32) (h : Fin 16) : iblk m c 0 t (ix2 b h) = m ((c.tc : Thread nD τ).loc main_arg2) (ix2 b h) := by
  have hi := (idx t).1
  refine Eq.trans ?_ (congrFun (V_main_arg2 m c) _)
  refine congrArg (V m c main_arg2) ?_
  blk_ext [hi]

theorem tab_eq (c : Dev nD) (b : Fin 32) (h : Fin 16) : tab m c (ix2 b h) = m ((c.tc : Thread nD τ).loc main_arg2) (ix2 b h) := tab_at m c _ b h

theorem sinks_eq (c : Dev nD) (t : Fin cfg0.N) (h : Fin 16) : iblk m c 1 t (ix1 h) = m ((c.tc : Thread nD τ).loc main_arg1) (ix1 h) := by
  have hi := (idx t).2.1
  refine Eq.trans ?_ (congrFun (V_main_arg1 m c) _)
  refine congrArg (V m c main_arg1) ?_
  blk_ext [hi]

theorem constant_eq (c : Dev nD) : V m c main_c = fun i => lit0 (S128x256.rowMajor i) := by
  unfold V
  after_results <;> rfl

theorem buckets_at (c : Dev nD) (t : Fin cfg0.N) (i : Fin 128) (j : Fin 256) : iblk m c 2 t (ix2 i j) = V m c main_c (ix2 i j) := by
  have hi := (idx t).2.2.1
  refine congrArg (V m c main_c) ?_
  blk_ext [hi]

theorem buckets_eq (c : Dev nD) (i : Fin 128) (j : Fin 256) : buckets m c (ix2 i j) = lit0 ⟨256 * i.val + j.val, by omega⟩ := by
  rw [show buckets m c (ix2 i j) = V m c main_c (ix2 i j) from buckets_at m c _ i j, constant_eq]
  refine congrArg lit0 (Fin.ext ?_)
  rw [Shape.rowMajor_val_two]
  show i.val * 256 + j.val = 256 * i.val + j.val
  omega

theorem q_block (c : Dev nD) (t : Fin cfg0.N) (r k : Fin 1024) :
    X0_3 m c t (ix2 r k) = V m c main_v17 (ix2 ⟨1024 * t.val + r.val, by have : t.val < 32 := t.isLt; omega⟩ ⟨2048 + k.val, by omega⟩) := by
  unfold X0_3 Pipeline.Window.fill
  rw [dif_pos (moved0_3 t _)]
  have hi := (idx t).2.2.2.1
  refine congrArg (V m c main_v17) ?_
  blk_ext [hi]

theorem z_block (c : Dev nD) (t : Fin cfg0.N) (r k : Fin 1024) :
    X0_4 m c t (ix2 r k) = V m c main_v17 (ix2 ⟨1024 * t.val + r.val, by have : t.val < 32 := t.isLt; omega⟩ ⟨3072 + k.val, by omega⟩) := by
  unfold X0_4 Pipeline.Window.fill
  rw [dif_pos (moved0_4 t _)]
  have hi := (idx t).2.2.2.2.1
  refine congrArg (V m c main_v17) ?_
  blk_ext [hi]

theorem own_block (c : Dev nD) (t : Fin cfg0.N) (r : Fin 1024) (k : Fin 512) :
    iblk m c 5 t (ix2 r k) = V m c main_v17 (ix2 ⟨1024 * t.val + r.val, by have : t.val < 32 := t.isLt; omega⟩ ⟨8192 + k.val, by omega⟩) := by
  have hi := (idx t).2.2.2.2.2.1
  refine congrArg (V m c main_v17) ?_
  blk_ext [hi]

theorem before_block (c : Dev nD) (t : Fin cfg0.N) (r : Fin 128) (k : Fin 512) :
    iblk m c 6 t (ix2 r k) = V m c main_v17 (ix2 ⟨128 * (8 * t.val - 1) + r.val, by have : t.val < 32 := t.isLt; omega⟩ ⟨8192 + k.val, by omega⟩) := by
  have hi := (idx t).2.2.2.2.2.2.1
  refine congrArg (V m c main_v17) ?_
  blk_ext [hi]

/-- The log-2 scale of the queries, as the host computes it. -/
def scale : Vec Ideal S_ .f32 := Host.divf (F := Ideal) (constant (F := Ideal) S_ .f32 0x3E000000#32) (Host.log (F := Ideal) (constant (F := Ideal) S_ .f32 0x40000000#32))

/-- The heads of one column block of the projection in the kernel's paired order. -/
def paired (v : Vec Ideal S32768x1024 .f32) : Vec Ideal S32768x1024 .f32 :=
  shapeCast _ (transpose S32768x2x4x2x64 [0, 1, 3, 2, 4] (shapeCast _ v shapeCasts_S32768x1024_S32768x2x2x4x64) transposes_S32768x2x2x4x64_S32768x2x4x2x64_0_1_3_2_4) shapeCasts_S32768x2x4x2x64_S32768x1024

/-- The projection as the host arranges it for the kernel. -/
def arranged (p : Vec Ideal S4x8192x8704 .f32) : Vec Ideal S32768x8704 .bf16 :=
  let w : Vec Ideal S32768x8704 .f32 := shapeCast _ p shapeCasts_S4x8192x8704_S32768x8704
  truncf (F := Ideal) .bf16 ((concatenate S32768x8704 1 [⟨S32768x2048, (extractStridedSlice S32768x2048 ![0, 0] w slices_S32768x8704_S32768x2048_0_0 : Vec Ideal S32768x2048 .f32)⟩,
    ⟨S32768x1024, paired (mulf (F := Ideal) (φ := .f32) (extractStridedSlice S32768x1024 ![0, 2048] w slices_S32768x8704_S32768x1024_0_2048) (broadcastInDim S32768x1024 ![] bcast_S_S32768x1024 scale))⟩,
    ⟨S32768x1024, paired (extractStridedSlice S32768x1024 ![0, 3584] w slices_S32768x8704_S32768x1024_0_3584)⟩,
    ⟨S32768x4096, (extractStridedSlice S32768x4096 ![0, 4608] w slices_S32768x8704_S32768x4096_0_4608 : Vec Ideal S32768x4096 .f32)⟩,
    ⟨S32768x512, (extractStridedSlice S32768x512 ![0, 3072] w slices_S32768x8704_S32768x512_0_3072 : Vec Ideal S32768x512 .f32)⟩] concatenates_S32768x2048_S32768x1024_S32768x1024_S32768x4096_S32768x512_S32768x8704_d1) : Vec Ideal S32768x8704 .f32) bitsLt_bf16_f32

/-- What the kernel reads as its projection. -/
theorem proj_eq (c : Dev nD) : V m c main_v17 = arranged (m ((c.tc : Thread nD τ).loc main_arg0)) := by
  unfold V
  after_results <;> rfl

theorem scale_eq (j : S_.Idx) : scale j = ((1 / 8 * (1 / Real.log 2) : ℝ) : EReal) := Ext.query_scale

theorem arranged_q (P : Vec Ideal S4x8192x8704 .f32) (R : Fin 32768) (p u : Fin 2) (g : Fin 4) (e : Fin 64) :
    arranged P (ix2 R ⟨2048 + (128 * (4 * p.val + g.val) + (64 * u.val + e.val)), by omega⟩)
      = entry P R ⟨2048 + (64 * (8 * p.val + (4 * u.val + g.val)) + e.val), by omega⟩ * ((1 / 8 * (1 / Real.log 2) : ℝ) : EReal) := by
  pointwise [arranged, paired, entry]
  rw [dif_pos (by omega), scale_eq]
  refine congrArg (· * _) (congrArg P ?_)
  refine congrArg₂ (ix3 _) rfl (Fin.ext ?_)
  (try simp only []); omega

theorem arranged_z (P : Vec Ideal S4x8192x8704 .f32) (R : Fin 32768) (p u : Fin 2) (g : Fin 4) (e : Fin 64) :
    arranged P (ix2 R ⟨3072 + (128 * (4 * p.val + g.val) + (64 * u.val + e.val)), by omega⟩)
      = entry P R ⟨3584 + (64 * (8 * p.val + (4 * u.val + g.val)) + e.val), by omega⟩ := by
  pointwise [arranged, paired, entry]
  (try split_ifs) <;> first
    | (exfalso; omega)
    | (refine congrArg P (congrArg (ix3 _ _) (Fin.ext ?_)); (try simp only []); omega)

theorem arranged_kv (P : Vec Ideal S4x8192x8704 .f32) (R : Fin 32768) (n : Fin 512) :
    arranged P (ix2 R ⟨8192 + n.val, by omega⟩) = entry P R ⟨3072 + n.val, by omega⟩ := by
  pointwise [arranged, paired, entry]
  rw [dif_neg (by omega), dif_neg (by omega), dif_neg (by omega), dif_neg (by omega)]
  have e : 8192 + n.val - 2048 - 1024 - 1024 - 4096 = n.val := by omega
  simp only [e]

end Cert.KernelIdeal.Attn

end
-- ==== Proof.AttnEntry.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.AttnRun

@[expose] public section

set_option maxRecDepth 16384

noncomputable section

open Idealize.ShloMosaic Idealize.ShloMosaic.TcCoe Idealize.SL.Sem
open Idealize.ShloMosaic.Pipeline (Dat)

/-! The entries of one block of rows. -/

namespace Cert.KernelIdeal.Attn

open Cert.KernelIdeal Cert.KernelIdeal.Gen Cert.KernelIdeal.Value

section Bias

variable (x0 : Vec Ideal S32x16 .f32) (x2 : Vec Ideal S128x256 .i32)

theorem mask_bot : Named.named (F := Ideal) (φ := .f32) κ "mask" 0xF149F2CA#32 = (⊥ : EReal) := rfl

theorem biasBand_apply (h : Fin 16) (b : Fin 32) (i : Fin 128) (j : Fin 256) (hb : x2 (ix2 i j) = BitVec.ofNat 32 b.val) :
    ∀ (n : Nat) (hn : n ≤ 32), biasBand x0 x2 h n hn (ix2 i j) = if b.val < n then tabEntry x0 b h else 0
  | 0, _ => by
    rw [if_neg (Nat.not_lt_zero _)]
    pointwise [biasBand]
  | n + 1, hn => by
    have ih := biasBand_apply h b i j hb n (Nat.le_of_succ_le hn)
    show Scalar.select (IntOp.cmpi .eq (View.ld x2 (Rect.unit (s := S128x256) ![0, 0] S128x256.size inb_S128x256_S128x256_0_0) (ix2 i j)) (BitVec.ofNat 32 n))
      (tabEntry x0 ⟨n, hn⟩ h) (biasBand x0 x2 h n (Nat.le_of_succ_le hn) (ix2 i j)) = _
    rw [ih]
    have hx : View.ld x2 (Rect.unit (s := S128x256) ![0, 0] S128x256.size inb_S128x256_S128x256_0_0) (ix2 i j) = BitVec.ofNat 32 b.val := by
      refine Eq.trans ?_ hb
      pointwise
    rw [hx]
    unfold Scalar.select
    by_cases hbn : b.val = n
    · obtain rfl : b = ⟨n, hn⟩ := Fin.ext hbn
      rw [if_pos (Nat.lt_succ_self n)]
      exact if_pos (by simp [IntOp.cmpi])
    · have hne : ¬ (IntOp.cmpi .eq (BitVec.ofNat 32 b.val) (BitVec.ofNat 32 n) = 1#1) := by
        intro e
        refine hbn ?_
        have := (WordCmp.cmpi_eq_ofNat_eq_one_iff (w := 32) (show b.val < 2 ^ 32 by omega) (show n < 2 ^ 32 by omega)).mp e
        exact this
      refine (if_neg hne).trans ?_
      by_cases h1 : b.val < n
      · rw [if_pos h1, if_pos (by omega)]
      · rw [if_neg h1, if_neg (by omega)]

theorem biasFolded_apply (h : Fin 16) (b : Fin 32) (i c : Fin 128) (hb : x2 (ix2 i (unfold i c)) = BitVec.ofNat 32 b.val) :
    biasFolded x0 x2 h (ix2 i c) = tabEntry x0 b h := by
  have hf := biasBand_apply x0 x2 h b i (unfold i c) hb 32 (le_refl _)
  rw [if_pos b.isLt] at hf
  refine Eq.trans ?_ hf
  pointwise [biasFolded, k0_pay221]
  rw [select_le _ _ (by omega) (by omega)]
  unfold unfold
  split_ifs <;> rfl

theorem biasTile_apply (v p : Fin 2) (g : Fin 4) (u : Fin 2) (b : Fin 32) (i c : Fin 128) (hb : x2 (ix2 i (unfold i c)) = BitVec.ofNat 32 b.val) :
    biasTile x0 x2 v p g u (ix4 0 0 i c) = if v.val = 0 ∧ ¬ c.val ≤ i.val then ⊥ else tabEntry x0 b (headOf p g u) := by
  have hf := biasFolded_apply x0 x2 (headOf p g u) b i c hb
  fin_cases v
  · refine Eq.trans (b := Scalar.select (IntOp.cmpi .sle (BitVec.ofNat 32 c.val) (BitVec.ofNat 32 i.val)) (biasFolded x0 x2 (headOf p g u) (ix2 i c)) ⊥) ?_ ?_
    · pointwise [biasTile, k0_pay221]
      rfl
    · rw [select_le _ _ (by omega) (by omega), hf]
      by_cases h : c.val ≤ i.val
      · rw [if_pos h, if_neg (by simp [h])]
      · rw [if_neg h, if_pos ⟨rfl, h⟩]
  · refine Eq.trans ?_ (hf.trans (if_neg (by simp)).symm)
    pointwise [biasTile]

theorem biasTile_congr {v v' p p' : Fin 2} {g g' : Fin 4} {u u' : Fin 2} {x x' : S1x1x128x128.Idx} (hv : v.val = v'.val) (hp : p.val = p'.val) (hg : g.val = g'.val)
    (hu : u.val = u'.val) (h0 : (x 0).val = (x' 0).val) (h1 : (x 1).val = (x' 1).val) (h2 : (x 2).val = (x' 2).val) (h3 : (x 3).val = (x' 3).val) :
    biasTile x0 x2 v p g u x = biasTile x0 x2 v' p' g' u' x' := by
  obtain rfl := Fin.ext hv
  obtain rfl := Fin.ext hp
  obtain rfl := Fin.ext hg
  obtain rfl := Fin.ext hu
  obtain rfl : x = x' := by
    funext a
    match a with
    | 0 => exact Fin.ext h0
    | 1 => exact Fin.ext h1
    | 2 => exact Fin.ext h2
    | 3 => exact Fin.ext h3
  rfl

/-- Every tile of the bias lies where its offsets say. -/
theorem kept_apply (v p : Fin 2) (g : Fin 4) (u : Fin 2) (i c : Fin 128) :
    kept x0 x2 (ix4 v p ⟨128 * g.val + i.val, by omega⟩ ⟨128 * u.val + c.val, by omega⟩) = biasTile x0 x2 v p g u (ix4 0 0 i c) := by
  refine (View.canon_apply_of_pieces (G := fun y : S2x2x512x256.Idx =>
    biasTile x0 x2 (y 0) (y 1) ⟨(y 2).val / 128, by have : (y 2).val < 512 := (y 2).isLt; omega⟩ ⟨(y 3).val / 128, by have : (y 3).val < 256 := (y 3).isLt; omega⟩
      (ix4 0 0 ⟨(y 2).val % 128, by omega⟩ ⟨(y 3).val % 128, by omega⟩)) _ ?_ _ ?_).trans ?_
  · intro pc hpc x
    simp only [biasTiles, List.mem_flatMap, List.mem_map] at hpc
    obtain ⟨p', -, g', -, u', -, v', -, rfl⟩ := hpc
    have h0 : (x 0).val < 1 := (x 0).isLt
    have h1 : (x 1).val < 1 := (x 1).isLt
    have h2 : (x 2).val < 128 := (x 2).isLt
    have h3 : (x 3).val < 128 := (x 3).isLt
    refine biasTile_congr x0 x2 ?_ ?_ ?_ ?_ ?_ ?_ ?_ ?_
    · show v'.val = v'.val + 1 * (x 0).val; omega
    · show p'.val = p'.val + 1 * (x 1).val; omega
    · show g'.val = (128 * g'.val + 1 * (x 2).val) / 128; omega
    · show u'.val = (128 * u'.val + 1 * (x 3).val) / 128; omega
    · show (x 0).val = 0; omega
    · show (x 1).val = 0; omega
    · show (x 2).val = (128 * g'.val + 1 * (x 2).val) % 128; omega
    · show (x 3).val = (128 * u'.val + 1 * (x 3).val) % 128; omega
  · exact View.cover_of_tiledL (s := S2x2x512x256) _ S1x1x128x128.size (by sl_kernel_rfl) _
  · refine biasTile_congr x0 x2 rfl rfl ?_ ?_ rfl rfl ?_ ?_
    · show (128 * g.val + i.val) / 128 = g.val; omega
    · show (128 * u.val + c.val) / 128 = u.val; omega
    · show (128 * g.val + i.val) % 128 = i.val; omega
    · show (128 * u.val + c.val) % 128 = c.val; omega

theorem readTile_at (xs : Vec Ideal S2x2x512x256 .f32) (v : Nat) (hv : v < 2) (p : Fin 2) (g : Fin 4) (u : Fin 2) (off : Fin 4 → Nat) (inb) (h : off = ![v, p.val, 128 * g.val, 128 * u.val])
    (i c : Fin 128) : readTile xs off inb (ix4 0 0 i c) = xs (ix4 ⟨v, hv⟩ p ⟨128 * g.val + i.val, by omega⟩ ⟨128 * u.val + c.val, by omega⟩) := by
  subst h
  refine congrArg xs ?_
  funext a
  match a with
  | 0 => exact Fin.ext (show v + 1 * 0 = v by omega)
  | 1 => exact Fin.ext (show p.val + 1 * 0 = p.val by omega)
  | 2 => exact Fin.ext (show 128 * g.val + 1 * i.val = 128 * g.val + i.val by omega)
  | 3 => exact Fin.ext (show 128 * u.val + 1 * c.val = 128 * u.val + c.val by omega)

/-- A tile read back at its offsets. -/
theorem readTile_apply (v : Nat) (hv : v < 2) (p : Fin 2) (g : Fin 4) (u : Fin 2) (off : Fin 4 → Nat) (inb) (h : off = ![v, p.val, 128 * g.val, 128 * u.val]) (b : Fin 32)
    (i c : Fin 128) (hb : x2 (ix2 i (unfold i c)) = BitVec.ofNat 32 b.val) :
    readTile (kept x0 x2) off inb (ix4 0 0 i c) = if v = 0 ∧ ¬ c.val ≤ i.val then ⊥ else tabEntry x0 b (headOf p g u) :=
  (readTile_at (kept x0 x2) v hv p g u off inb h i c).trans ((kept_apply x0 x2 ⟨v, hv⟩ p g u i c).trans (biasTile_apply x0 x2 ⟨v, hv⟩ p g u b i c hb))

end Bias

section Tiles

variable (i : grid0.Coords) (x1 : Vec Ideal S16 .f32) (x3 x4 : Vec Ideal S1024x1024 .bf16) (x5 : Vec Ideal S1024x512 .bf16) (x6 : Vec Ideal S128x512 .bf16) (B : BiasRead)

/-- Every tile of the result lies where its block of rows and its columns say. -/
theorem tiles_apply (s : Fin 8) (p : Fin 2) (g : Fin 4) (r n : Fin 128) :
    View.canon (Val := Elt Ideal) (s := S1024x1024) (e := .bf16) (tiles i x1 x3 x4 x5 x6 B) (ix2 ⟨128 * s.val + r.val, by omega⟩ ⟨128 * (4 * p.val + g.val) + n.val, by omega⟩)
      = tile i x1 x3 x4 x5 x6 B s p g (ix2 r n) := by
  have congr {s s' : Fin 8} {p p' : Fin 2} {g g' : Fin 4} {x x' : S128x128.Idx} (hs : s.val = s'.val) (hp : p.val = p'.val) (hg : g.val = g'.val)
      (h0 : (x 0).val = (x' 0).val) (h1 : (x 1).val = (x' 1).val) : tile i x1 x3 x4 x5 x6 B s p g x = tile i x1 x3 x4 x5 x6 B s' p' g' x' := by
    obtain rfl := Fin.ext hs
    obtain rfl := Fin.ext hp
    obtain rfl := Fin.ext hg
    obtain rfl : x = x' := by
      funext a
      match a with
      | 0 => exact Fin.ext h0
      | 1 => exact Fin.ext h1
    rfl
  refine (View.canon_apply_of_pieces (G := fun y : S1024x1024.Idx =>
    tile i x1 x3 x4 x5 x6 B ⟨(y 0).val / 128, by have : (y 0).val < 1024 := (y 0).isLt; omega⟩ ⟨(y 1).val / 512, by have : (y 1).val < 1024 := (y 1).isLt; omega⟩
      ⟨(y 1).val / 128 % 4, by omega⟩ (ix2 ⟨(y 0).val % 128, by omega⟩ ⟨(y 1).val % 128, by omega⟩)) _ ?_ _ ?_).trans ?_
  · intro pc hpc x
    simp only [tiles, List.mem_flatMap, List.mem_map] at hpc
    obtain ⟨s', -, p', -, g', -, rfl⟩ := hpc
    have h0 : (x 0).val < 128 := (x 0).isLt
    have h1 : (x 1).val < 128 := (x 1).isLt
    refine congr ?_ ?_ ?_ ?_ ?_
    · show s'.val = (128 * s'.val + 1 * (x 0).val) / 128; omega
    · show p'.val = (128 * (4 * p'.val + g'.val) + 1 * (x 1).val) / 512; omega
    · show g'.val = (128 * (4 * p'.val + g'.val) + 1 * (x 1).val) / 128 % 4; omega
    · show (x 0).val = (128 * s'.val + 1 * (x 0).val) % 128; omega
    · show (x 1).val = (128 * (4 * p'.val + g'.val) + 1 * (x 1).val) % 128; omega
  · exact View.cover_of_tiledL (s := S1024x1024) _ S128x128.size (by sl_kernel_rfl) _
  · refine congr ?_ ?_ ?_ ?_ ?_
    · show (128 * s.val + r.val) / 128 = s.val; omega
    · show (128 * (4 * p.val + g.val) + n.val) / 512 = p.val; omega
    · show (128 * (4 * p.val + g.val) + n.val) / 128 % 4 = g.val; omega
    · show (128 * s.val + r.val) % 128 = r.val; omega
    · show (128 * (4 * p.val + g.val) + n.val) % 128 = n.val; omega

/-- The keys and values of one band: the block before, then the block itself. -/
theorem keyBlock_apply (s : Nat) (hs : s < 8) (j : Fin 256) (n : Fin 512) :
    keyBlock x5 x6 s hs (ix2 j n) = if h : 128 * s + j.val < 128 then x6 (ix2 ⟨j.val, by omega⟩ n) else x5 (ix2 ⟨128 * s + j.val - 128, by omega⟩ n) := by
  cases s with
  | zero =>
    pointwise [keyBlock, k0_pay230]
  | succ s =>
    rw [dif_neg (by omega)]
    pointwise [keyBlock]
    refine congrArg x5 (congrArg (ix2 · n) (Fin.ext ?_))
    show 128 * s + j.val = 128 * (s + 1) + j.val - 128
    omega

end Tiles

end Cert.KernelIdeal.Attn

end
-- ==== Proof.AttnValue.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.AttnEntry
public import proofs.«01_k».proof.Proof.Softmax

@[expose] public section

set_option maxRecDepth 16384

noncomputable section

open Idealize.ShloMosaic Idealize.ShloMosaic.TcCoe Idealize.SL.Sem
open Idealize.ShloMosaic.Pipeline (Dat)

/-! What the kernel leaves, over its arguments. -/

namespace Cert.KernelIdeal.Attn

open Cert.KernelIdeal Cert.KernelIdeal.Gen Cert.KernelIdeal.Value

theorem log2e : Named.named (F := Ideal) (φ := .f32) κ "log2e" 0x3FB8AA3B#32 = ((1 / Real.log 2 : ℝ) : EReal) := by
  show (((Real.log 2)⁻¹ : ℝ) : EReal) = _
  rw [one_div]

/-- One tile is the attention of one head, gated: `x` the logits in natural units. -/
theorem tile_apply (i : grid0.Coords) (x0 : Vec Ideal S32x16 .f32) (x2 : Vec Ideal S128x256 .i32) (x1 : Vec Ideal S16 .f32) (x3 x4 : Vec Ideal S1024x1024 .bf16) (x5 : Vec Ideal S1024x512 .bf16) (x6 : Vec Ideal S128x512 .bf16)
    (s : Fin 8) (p u : Fin 2) (g : Fin 4) (r : Fin 128) (d : Fin 64) (b : Fin 128 → Fin 32) (hb : ∀ c, x2 (ix2 r (unfold r c)) = BitVec.ofNat 32 (b c).val)
    (L : Fin 128 → EReal) (S : ℝ) (hL : ∀ c, L c ≠ ⊤) (hS : x1 (ix1 (headOf p g u)) = (S : EReal))
    (hx : ∀ c, (∑ e : Fin 64, x3 (ix2 ⟨128 * s.val + r.val, by omega⟩ ⟨128 * (4 * p.val + g.val) + (64 * u.val + e.val), by omega⟩)
        * keyBlock x5 x6 s.val s.isLt (ix2 (unfold r c) ⟨128 * p.val + (64 * u.val + e.val), by omega⟩))
        + (if (s.val = 0 ∧ variant i = 0) ∧ ¬ c.val ≤ r.val then ⊥ else x0 (ix2 (b c) (headOf p g u)) * ((1 / Real.log 2 : ℝ) : EReal)) = L c * ((1 / Real.log 2 : ℝ) : EReal)) :
    tile i x1 x3 x4 x5 x6 (readTile (kept x0 x2)) s p g (ix2 r ⟨64 * u.val + d.val, by omega⟩)
      = Softmax.attend L (S : EReal) (fun c => keyBlock x5 x6 s.val s.isLt (ix2 (unfold r c) ⟨256 + 128 * p.val + (64 * u.val + d.val), by omega⟩))
        * (x4 (ix2 ⟨128 * s.val + r.val, by omega⟩ ⟨128 * (4 * p.val + g.val) + (64 * u.val + d.val), by omega⟩)
          * Ideal.logistic (x4 (ix2 ⟨128 * s.val + r.val, by omega⟩ ⟨128 * (4 * p.val + g.val) + (64 * u.val + d.val), by omega⟩))) := by
  have hq (x : Vec Ideal S1024x1024 .bf16) (n : Fin 128) : query x s p g (ix2 r n) = x (ix2 ⟨128 * s.val + r.val, by omega⟩ ⟨128 * (4 * p.val + g.val) + n.val, by omega⟩) := by
    refine congrArg x ?_
    funext a
    match a with
    | 0 => exact Fin.ext (show 128 * s.val + 1 * r.val = 128 * s.val + r.val by omega)
    | 1 => exact Fin.ext (show 128 * (4 * p.val + g.val) + 1 * n.val = 128 * (4 * p.val + g.val) + n.val by omega)
  have hsk : sink x1 p g u = (S : EReal) * ((1 / Real.log 2 : ℝ) : EReal) := by
    rw [← hS, ← log2e]
    refine congrArg (· * _) (congrArg x1 ?_)
    funext a
    match a with
    | 0 => exact Fin.ext (show 8 * p.val + (4 * u.val + g.val) + 1 * 0 = 8 * p.val + (4 * u.val + g.val) by omega)
  have hlg (c : Fin 128) : scores (keyBlock x5 x6 s.val s.isLt) p (query x3 s p) (fun g u => readTile (kept x0 x2) (biasOff i s.val p g u) (biasOff_inb i s.val p g u)) g u (ix2 r c)
      = L c * ((1 / Real.log 2 : ℝ) : EReal) := by
    rw [scores_apply, ← hx c]
    refine congrArg₂ (· + ·) (Finset.sum_congr rfl fun e _ => by rw [hq]) ?_
    have htab : tabEntry x0 (b c) (headOf p g u) = x0 (ix2 (b c) (headOf p g u)) * ((1 / Real.log 2 : ℝ) : EReal) := by
      rw [← log2e]
      refine congrArg (· * _) (congrArg x0 ?_)
      funext a
      match a with
      | 0 => exact Fin.ext (show (b c).val + 1 * 0 = (b c).val by omega)
      | 1 => exact Fin.ext (show (headOf p g u).val + 1 * 0 = (headOf p g u).val by omega)
    rw [← htab]
    obtain ⟨s, hs⟩ := s
    cases s with
    | zero =>
      refine (readTile_apply x0 x2 (variant i) (variant_lt i) p g u _ _ (firstOff_eq i p g u) (b c) r c (hb c)).trans ?_
      simp only [true_and]
    | succ s =>
      refine (readTile_apply x0 x2 1 (by decide) p g u _ _ rfl (b c) r c (hb c)).trans ?_
      rw [if_neg (by simp), if_neg (by simp)]
  unfold tile
  rw [gated_apply _ _ _ _ (by omega), group_apply _ _ _ _ _ g r ⟨64 * u.val + d.val, by omega⟩ u (by show (64 * u.val + d.val) / 64 = u.val; omega), hq]
  refine congrArg (· * _) ?_
  refine Eq.trans ?_ (Softmax.binary L S (fun c => keyBlock x5 x6 s.val s.isLt (ix2 (unfold r c) ⟨256 + 128 * p.val + (64 * u.val + d.val), by omega⟩)) hL
    (fun c => scores (keyBlock x5 x6 s.val s.isLt) p (query x3 s p) (fun g u => readTile (kept x0 x2) (biasOff i s.val p g u) (biasOff_inb i s.val p g u)) g u (ix2 r c))
    (sink x1 p g u) hlg hsk)
  unfold powers
  simp only [weights_apply, tops_apply]

end Cert.KernelIdeal.Attn

end
-- ==== Proof.AttnBucket.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.AttnSpec

@[expose] public section

set_option maxRecDepth 16384

noncomputable section

open Idealize.ShloMosaic Idealize.ShloMosaic.TcCoe Idealize.SL.Sem
open Idealize.ShloMosaic.Pipeline (Dat)

/-! The buckets of the distances, as the kernel's constant holds them. -/

namespace Cert.KernelIdeal.Attn

open Cert.KernelIdeal Cert.KernelIdeal.Gen Cert.KernelIdeal.Value

/-- The kernel's constant holds these buckets. -/
theorem literal : ∀ i c : Fin 128, lit0 ⟨256 * i.val + (unfold i c).val, by omega⟩ = BitVec.ofNat 32 (bucketOf (dist i c).val) := by
  decide +kernel

end Cert.KernelIdeal.Attn

end
-- ==== Proof.AttnFinal.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.AttnArrays
public import proofs.«01_k».proof.Proof.AttnValue
public import proofs.«01_k».proof.Proof.AttnBucket

@[expose] public section

set_option maxRecDepth 16384

noncomputable section

open Idealize.ShloMosaic Idealize.ShloMosaic.TcCoe Idealize.SL.Sem
open Idealize.ShloMosaic.Pipeline (Dat)

/-! What the kernel leaves, over its arguments. -/

namespace Cert.KernelIdeal.Attn

open Cert.KernelIdeal Cert.KernelIdeal.Gen Cert.KernelIdeal.Value

variable (m : (ℓ : Loc nD τ sig) → Buf (Elt Ideal) ℓ) (ρ : Dev nD → PrngReg)

/-- The block number of a point and the block within it. -/
def blockOf (t : Fin cfg0.N) (s : Fin 8) : Fin 256 := ⟨8 * t.val + s.val, by have : t.val < 32 := t.isLt; omega⟩

theorem v17_congr (c : Dev nD) (P : Vec Ideal S4x8192x8704 .f32) (h : V m c main_v17 = arranged P) {R R' : Fin 32768} {n n' : Fin 8704} (hR : R.val = R'.val) (hn : n.val = n'.val) :
    V m c main_v17 (ix2 R n) = arranged P (ix2 R' n') := by
  obtain rfl := Fin.ext hR
  obtain rfl := Fin.ext hn
  exact congrFun h _

/-- The band of keys and values one block reads. -/
theorem band_at (c : Dev nD) (P : Vec Ideal S4x8192x8704 .f32) (h : V m c main_v17 = arranged P) (t : Fin cfg0.N) (s : Fin 8) (j : Fin 256) (n : Fin 512) :
    keyBlock (iblk m c 5 t) (iblk m c 6 t) s.val s.isLt (ix2 j n) = entry P (keyRow (blockOf t s) j) ⟨3072 + n.val, by omega⟩ := by
  have ht : t.val < 32 := t.isLt
  rw [keyBlock_apply]
  split_ifs with hj
  · refine (before_block m c t _ n).trans (Eq.trans (v17_congr m c P h ?_ ?_) (arranged_kv P (keyRow (blockOf t s) j) n))
    · unfold keyRow blockOf
      split_ifs with hk
      · simp only []; omega
      · simp only []; omega
    · rfl
  · refine (own_block m c t _ n).trans (Eq.trans (v17_congr m c P h ?_ ?_) (arranged_kv P (keyRow (blockOf t s) j) n))
    · unfold keyRow blockOf
      split_ifs with hk
      · simp only []; omega
      · simp only []; omega
    · rfl

/-- One entry of a block the kernel stores. -/
theorem block_apply (c : Dev nD) (P : Vec Ideal S4x8192x8704 .f32) (Sk : Vec Ideal S16 .f32) (T : Vec Ideal S32x16 .f32)
    (hP : m ((c.tc : Thread nD τ).loc main_arg0) = P) (hSk : m ((c.tc : Thread nD τ).loc main_arg1) = Sk) (hT : m ((c.tc : Thread nD τ).loc main_arg2) = T)
    (hf : Finite P Sk T) (t : Fin cfg0.N) (s : Fin 8) (r : Fin 128) (p u : Fin 2) (g : Fin 4) (d : Fin 64) :
    (outsAt0 m c t.val t.isLt).1 (ix2 ⟨128 * s.val + r.val, by omega⟩ ⟨128 * (4 * p.val + g.val) + (64 * u.val + d.val), by omega⟩) = attention P Sk T (blockOf t s) r p u g d := by
  have ht : t.val < 32 := t.isLt
  have hV : V m c main_v17 = arranged P := by rw [proj_eq, hP]
  obtain ⟨S, hS⟩ := hf.sinks (headOf p g u)
  have hq : ∀ e : Fin 64, X0_3 m c t (ix2 ⟨128 * s.val + r.val, by omega⟩ ⟨128 * (4 * p.val + g.val) + (64 * u.val + e.val), by omega⟩)
      = entry P (queryRow (blockOf t s) r) ⟨2048 + (64 * (8 * p.val + (4 * u.val + g.val)) + e.val), by omega⟩ * ((1 / 8 * (1 / Real.log 2) : ℝ) : EReal) := fun e =>
    (q_block m c t _ _).trans ((v17_congr m c P hV (by unfold queryRow blockOf; simp only []; omega) rfl).trans (arranged_q P (queryRow (blockOf t s) r) p u g e))
  have hz : X0_4 m c t (ix2 ⟨128 * s.val + r.val, by omega⟩ ⟨128 * (4 * p.val + g.val) + (64 * u.val + d.val), by omega⟩) = gate P (blockOf t s) r p u g d :=
    (z_block m c t _ _).trans ((v17_congr m c P hV (by unfold queryRow blockOf; simp only []; omega) rfl).trans (arranged_z P (queryRow (blockOf t s) r) p u g d))
  have hval := tile_apply (grid0.coords t) (tab m c) (buckets m c) (iblk m c 1 t) (X0_3 m c t) (X0_4 m c t) (iblk m c 5 t) (iblk m c 6 t) s p u g r d (bucket r)
    (fun k => (buckets_eq m c r (unfold r k)).trans (literal r k)) (logit P T (blockOf t s) r p u g) S (fun k => hf.logit _ _ _ _ _ _)
    ((sinks_eq m c t _).trans ((congrFun hSk _).trans hS)) (fun k => by
      rw [← hf.binary]
      refine congrArg₂ (· + ·) (Finset.sum_congr rfl fun e _ => ?_) ?_
      · rw [hq e, band_at m c P hV]
      · rw [variant_eq, tab_eq, hT]
        refine if_congr ?_ rfl rfl
        unfold blockOf
        refine and_congr_left fun _ => ?_
        split_ifs with h8
        · exact ⟨fun h => by have h1 := h.1; show (8 * t.val + s.val) % 64 = 0; omega, fun h => ⟨by have h1 : (8 * t.val + s.val) % 64 = 0 := h; omega, rfl⟩⟩
        · exact ⟨fun h => absurd h.2 (by decide), fun h => absurd (by have h1 : (8 * t.val + s.val) % 64 = 0 := h; omega) h8⟩)
  rw [block]
  refine (tiles_apply (grid0.coords t) (iblk m c 1 t) (X0_3 m c t) (X0_4 m c t) (iblk m c 5 t) (iblk m c 6 t) (readTile (kept (tab m c) (buckets m c))) s p g r ⟨64 * u.val + d.val, by omega⟩).trans (hval.trans ?_)
  unfold attention
  rw [hS, hz]
  refine congrArg (fun v => Softmax.attend _ _ v * _) (funext fun k => ?_)
  refine (band_at m c P hV t s (unfold r k) _).trans (congrArg (entry P _) (Fin.ext ?_))
  simp only []; omega

/-- The attention the kernel leaves. -/
theorem final8 (c : Dev nD) (P : Vec Ideal S4x8192x8704 .f32) (Sk : Vec Ideal S16 .f32) (T : Vec Ideal S32x16 .f32)
    (hP : m ((c.tc : Thread nD τ).loc main_arg0) = P) (hSk : m ((c.tc : Thread nD τ).loc main_arg1) = Sk) (hT : m ((c.tc : Thread nD τ).loc main_arg2) = T)
    (hf : Finite P Sk T) : (dats m 0 c).arrAt 8 cfg0.N = result P Sk T := by
  refine (dats m 0 c).arrAt_eq_of_covers 8 _ (by decide +kernel) fun t hf' y => ?_
  blk_simp
  rw [after0_8]
  have ho := (idx t).2.2.2.2.2.2.2.2.1
  have ht : t.val < 32 := t.isLt
  idx_vars y
  obtain ⟨s, r, p, u, g, d, h0, h1⟩ : ∃ (s : Fin 8) (r : Fin 128) (p u : Fin 2) (g : Fin 4) (d : Fin 64),
      y0 = ⟨128 * s.val + r.val, by omega⟩ ∧ y1 = ⟨128 * (4 * p.val + g.val) + (64 * u.val + d.val), by omega⟩ := by
    refine ⟨⟨y0.val / 128, by omega⟩, ⟨y0.val % 128, by omega⟩, ⟨y1.val / 512, by omega⟩, ⟨y1.val / 64 % 2, by omega⟩, ⟨y1.val / 128 % 4, by omega⟩, ⟨y1.val % 64, by omega⟩, Fin.ext ?_, Fin.ext ?_⟩
      <;> (try simp only []) <;> omega
  subst h0 h1
  refine (block_apply m c P Sk T hP hSk hT hf t s r p u g d).trans ((result_apply P Sk T (blockOf t s) r p u g d).symm.trans (congrArg (result P Sk T) ?_))
  unfold blockOf
  blk_ext [ho]
  all_goals omega

/-- The cast of the second branch's weights. -/
theorem final9 (c : Dev nD) : (dats m 0 c).arrAt 9 cfg0.N = (m ((c.tc : Thread nD τ).loc main_arg3) : Vec Ideal S1024x2048 .f32) := by
  refine (dats m 0 c).arrAt_eq_of_covers 9 _ (by decide +kernel) fun t hf y => ?_
  blk_simp
  rw [after0_9]
  have hi := (idx t).2.2.2.2.2.2.2.1
  have ho := (idx t).2.2.2.2.2.2.2.2.2
  have hs : ∀ j, (outsAt0 m c t.val t.isLt).2.1 j = iblk m c 7 t j := by
    intro j
    by_cases h0 : t.val % 32 = 0
    · rw [outsAt0_A m c t h0]
      frame_out
      pointwise [k0_pay220]
    · rw [outsAt0_B m c t h0]
      frame_out
      pointwise [k0_pay220]
  idx_vars y
  refine (hs _).trans ?_
  refine Eq.trans ?_ (congrFun (V_main_arg3 m c) _)
  refine congrArg (V m c main_arg3) ?_
  blk_ext [hi, ho]

end Cert.KernelIdeal.Attn

end
-- ==== Proof.BucketLog.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.AttnSpec

@[expose] public section

set_option maxRecDepth 16384

noncomputable section

open Idealize.ShloMosaic Idealize.ShloMosaic.TcCoe Idealize.SL.Sem
open Idealize.ShloMosaic.Pipeline (Dat)

/-! The logarithmic bucket of a distance, as the reference computes it. -/

namespace Cert.Bucket

theorem step : Ideal.ofBits .f32 0x40051592#32 = ((4360905 / 2097152 : ℝ) : EReal) := by
  simp [Ideal.ofBits, Ideal.ieee, -EReal.coe_mul]
  norm_num

theorem sixteen : Ideal.ofBits .f32 0x41800000#32 = ((16 : ℝ) : EReal) := by
  simp [Ideal.ofBits, Ideal.ieee, -EReal.coe_mul]
  norm_num

/-- The natural logarithm of two to four digits, by the exponential series. -/
theorem log_two : (6931 / 10000 : ℝ) < Real.log 2 ∧ Real.log 2 < 6932 / 10000 := by
  constructor
  · rw [Real.lt_log_iff_exp_lt (by norm_num)]
    have h := Real.exp_bound (x := 6931 / 10000) (by rw [abs_of_pos] <;> norm_num) (n := 8) (by norm_num)
    rw [abs_le, abs_of_pos (by norm_num : (0 : ℝ) < 6931 / 10000)] at h
    have h := h.2
    simp only [Finset.sum_range_succ, Finset.sum_range_zero, Nat.factorial] at h
    norm_num at h
    linarith
  · rw [Real.log_lt_iff_lt_exp (by norm_num)]
    have h := Real.exp_bound (x := 6932 / 10000) (by rw [abs_of_pos] <;> norm_num) (n := 8) (by norm_num)
    rw [abs_le, abs_of_pos (by norm_num : (0 : ℝ) < 6932 / 10000)] at h
    have h := h.1
    simp only [Finset.sum_range_succ, Finset.sum_range_zero, Nat.factorial] at h
    norm_num at h
    linarith

/-- The step of a distance `d` from the sixteenth on, between two whole numbers, by comparing powers. -/
theorem between (d k : Nat) (hd : 16 ≤ d) (hk : k ≤ 15) (h1 : k = 0 ∨ 101 * 2 ^ (64 + 3 * k) ≤ 100 * d ^ 16) (h2 : 101 * d ^ 16 ≤ 100 * 2 ^ (64 + 3 * (k + 1))) :
    (k : ℝ) ≤ Real.log (d / 16) * (1 / (4360905 / 2097152)) * 16 ∧ Real.log (d / 16) * (1 / (4360905 / 2097152)) * 16 < k + 1 := by
  have hd0 : (0 : ℝ) < d := by exact_mod_cast (by omega : 0 < d)
  have hk15 : (k : ℝ) ≤ 15 := by exact_mod_cast hk
  have hk0 : (0 : ℝ) ≤ k := by positivity
  have hlog : Real.log (d / 16) = Real.log d - 4 * Real.log 2 := by
    rw [Real.log_div hd0.ne' (by norm_num), show (16 : ℝ) = 2 ^ 4 by norm_num, Real.log_pow]
    norm_num
  have t1 := log_two.1
  have t2 := log_two.2
  have hr : (1 : ℝ) / 101 ≤ Real.log 101 - Real.log 100 := by
    rw [← Real.log_div (by norm_num) (by norm_num)]
    refine le_trans (by norm_num) (Real.one_sub_inv_le_log_of_pos (by norm_num))
  have pow_log (n : Nat) : Real.log (100 * 2 ^ n) = Real.log 100 + n * Real.log 2 := by
    rw [Real.log_mul (by norm_num) (by positivity), Real.log_pow]
  have u : Real.log 101 + 16 * Real.log d ≤ Real.log 100 + (64 + 3 * (k + 1)) * Real.log 2 := by
    have h : ((101 * d ^ 16 : ℕ) : ℝ) ≤ ((100 * 2 ^ (64 + 3 * (k + 1)) : ℕ) : ℝ) := by exact_mod_cast h2
    push_cast at h
    have h := Real.log_le_log (by positivity) h
    rw [pow_log, Real.log_mul (by norm_num) (by positivity), Real.log_pow] at h
    push_cast at h
    exact h
  have l : (k : ℝ) * (4360905 / 2097152) ≤ 16 * (Real.log d - 4 * Real.log 2) := by
    rcases h1 with rfl | h1
    · have h : Real.log 16 ≤ Real.log d := Real.log_le_log (by norm_num) (by exact_mod_cast hd)
      rw [show (16 : ℝ) = 2 ^ 4 by norm_num, Real.log_pow] at h
      push_cast at h ⊢
      linarith
    · have h : ((101 * 2 ^ (64 + 3 * k) : ℕ) : ℝ) ≤ ((100 * d ^ 16 : ℕ) : ℝ) := by exact_mod_cast h1
      push_cast at h
      have h := Real.log_le_log (by positivity) h
      rw [Real.log_mul (by norm_num) (by positivity), Real.log_pow, Real.log_mul (by norm_num) (by positivity), Real.log_pow] at h
      push_cast at h
      nlinarith [mul_le_mul_of_nonneg_left (by linarith : 4360905 / 2097152 - 3 * Real.log 2 ≤ 1 / 5000) hk0]
  rw [hlog]
  constructor
  · have : (k : ℝ) = (k : ℝ) * (4360905 / 2097152) * (1 / (4360905 / 2097152)) := by field_simp
    rw [this]
    have h := mul_le_mul_of_nonneg_right l (by norm_num : (0 : ℝ) ≤ 1 / (4360905 / 2097152))
    linarith
  · have h3 : 16 * (Real.log d - 4 * Real.log 2) < (k + 1) * (4360905 / 2097152) := by
      nlinarith [mul_le_mul_of_nonneg_left (by linarith : 3 * Real.log 2 - 4360905 / 2097152 ≤ 1 / 5000) hk0]
    have h := mul_lt_mul_of_pos_right h3 (by norm_num : (0 : ℝ) < 1 / (4360905 / 2097152))
    have e : ((k : ℝ) + 1) * (4360905 / 2097152) * (1 / (4360905 / 2097152)) = k + 1 := by field_simp
    linarith

theorem truncated (x : ℝ) (k : Nat) (hk : k ≤ 15) (h1 : (k : ℝ) ≤ x) (h2 : x < k + 1) : Ideal.fptosi 32 (x : EReal) = BitVec.ofNat 32 k := by
  have hf : ⌊x⌋ = (k : ℤ) := Int.floor_eq_iff.mpr ⟨by exact_mod_cast h1, by exact_mod_cast h2⟩
  have h0 : (0 : ℝ) ≤ x := le_trans (by positivity) h1
  show BitVec.ofInt 32 (max _ (min _ (if 0 ≤ x then ⌊x⌋ else ⌈x⌉))) = _
  rw [if_pos h0, hf]
  have : max (-((2 ^ (32 - 1) : Nat) : ℤ)) (min (((2 ^ (32 - 1) : Nat) : ℤ) - 1) (k : ℤ)) = (k : ℤ) := by
    have : ((2 ^ (32 - 1) : Nat) : ℤ) = 2147483648 := by norm_num
    rw [this]
    omega
  rw [this, BitVec.ofInt_natCast]

open Cert.KernelIdeal.Attn (bucketOf)

theorem powers : ∀ d : Fin 128, 16 ≤ d.val → 16 ≤ bucketOf d.val ∧ bucketOf d.val - 16 ≤ 15
    ∧ (bucketOf d.val - 16 = 0 ∨ 101 * 2 ^ (64 + 3 * (bucketOf d.val - 16)) ≤ 100 * d.val ^ 16)
    ∧ 101 * d.val ^ 16 ≤ 100 * 2 ^ (64 + 3 * (bucketOf d.val - 16 + 1)) := by
  decide +kernel

/-- The truncated step of a distance from the sixteenth on. -/
theorem floor_step (d : Fin 128) (h : 16 ≤ d.val) :
    Ideal.fptosi 32 (Ideal.div (Ideal.log (Ideal.div ((d.val : ℝ) : EReal) (Ideal.ofBits .f32 0x41800000#32))) (Ideal.ofBits .f32 0x40051592#32) * Ideal.ofBits .f32 0x41800000#32)
      = BitVec.ofNat 32 (bucketOf d.val - 16) := by
  obtain ⟨h0, h1, h2, h3⟩ := powers d h
  have hb := between d.val (bucketOf d.val - 16) h h1 h2 h3
  have hd : (0 : ℝ) < d.val := by exact_mod_cast (by omega : 0 < d.val)
  rw [sixteen, step, Ideal.div_coe (by norm_num), Ideal.div_coe (by norm_num), ← EReal.coe_mul, mul_one_div, Ideal.log_coe, if_neg (not_le.mpr (by positivity)), ← EReal.coe_mul, ← EReal.coe_mul]
  exact truncated _ _ h1 hb.1 hb.2

end Cert.Bucket

end
-- ==== Proof.AttnRef.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.BucketLog

@[expose] public section

set_option maxRecDepth 16384

noncomputable section

open Idealize.ShloMosaic Idealize.ShloMosaic.TcCoe Idealize.SL.Sem
open Idealize.ShloMosaic.Pipeline (Dat)

/-! The reference's attention, in vectors. -/

namespace Cert.ReferenceIdeal.Attn

open Cert.ReferenceIdeal Cert.ReferenceIdeal.Gen Cert.ReferenceIdeal.Value Idealize.ShloMosaic.StableHlo

/-- How far back a key lies, signed. -/
def dist : Vec Ideal S128x256 .i32 :=
  subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))

/-- The distance, never negative. -/
def clip : Vec Ideal S128x256 .i32 :=
  maxsi (broadcastInDim S128x256 ![] bcast_S_S128x256 (id (constantI S_ 32 0#32))) dist

/-- The logarithmic bucket. -/
def large : Vec Ideal S128x256 .i32 :=
  minsi (addi (broadcastInDim S128x256 ![] bcast_S_S128x256 (constantI S_ 32 16#32)) (fptosi (F := Ideal) 32 (mulf (F := Ideal) (φ := .f32) (Host.divf (F := Ideal) (φ := .f32) (Host.log (F := Ideal) (φ := .f32) (Host.divf (F := Ideal) (φ := .f32) (sitofp (F := Ideal) .f32 (maxsi clip (broadcastInDim S128x256 ![] bcast_S_S128x256 (constantI S_ 32 1#32)))) (broadcastInDim S128x256 ![] bcast_S_S128x256 (constant (F := Ideal) S_ .f32 0x41800000#32)))) (broadcastInDim S128x256 ![] bcast_S_S128x256 (constant (F := Ideal) S_ .f32 0x40051592#32))) (broadcastInDim S128x256 ![] bcast_S_S128x256 (constant (F := Ideal) S_ .f32 0x41800000#32))))) (broadcastInDim S128x256 ![] bcast_S_S128x256 (constantI S_ 32 31#32))

/-- The bucket of a distance. -/
def bucket : Vec Ideal S128x256 .i32 :=
  select (cmpi .slt clip (broadcastInDim S128x256 ![] bcast_S_S128x256 (constantI S_ 32 16#32))) clip large

/-- The row of the table one key reads. -/
def index : Vec Ideal S128x256 .i32 :=
  select (cmpi .slt bucket (broadcastInDim S128x256 ![] bcast_S_S128x256 (constantI S_ 32 0#32))) (addi bucket (broadcastInDim S128x256 ![] bcast_S_S128x256 (constantI S_ 32 32#32))) bucket

/-- The bias of the band. -/
def bias (T : Vec Ideal S32x16 .f32) : Vec Ideal S4x4x128x256 .f32 :=
  shapeCast _ (transpose S16x128x256 [2, 0, 1] (Host.gather gather_S32x16_S128x256x1_S128x256x16_2_0_n_n_0_2_116 T (broadcastInDim S128x256x1 ![0, 1] bcast_S128x256_S128x256x1_0_1 index)) transposes_S128x256x16_S16x128x256_2_0_1) shapeCasts_S16x128x256_S4x4x128x256

/-- The keys within the window. -/
def bandOk : Vec Ideal S128x256 .i1 :=
  andi (cmpi .sge dist (broadcastInDim S128x256 ![] bcast_S_S128x256 (constantI S_ 32 0#32))) (cmpi .slt dist (broadcastInDim S128x256 ![] bcast_S_S128x256 (constantI S_ 32 128#32)))

/-- Those of them that lie in the sequence. -/
def mask : Vec Ideal S1x64x1x1x128x256 .i1 :=
  broadcastInDim S1x64x1x1x128x256 ![1, 4, 5] bcast_S64x128x256_S1x64x1x1x128x256_1_4_5 (andi (broadcastInDim S64x128x256 ![0, 1, 2] bcast_S1x128x256_S64x128x256_0_1_2 (broadcastInDim S1x128x256 ![1, 2] bcast_S128x256_S1x128x256_1_2 bandOk)) (broadcastInDim S64x128x256 ![0, 1, 2] bcast_S64x1x256_S64x128x256_0_1_2 (cmpi .sge (addi (broadcastInDim S64x1x256 ![0, 1, 2] bcast_S64x1x1_S64x1x256_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32)))) (broadcastInDim S64x1x256 ![0, 1, 2] bcast_S1x1x256_S64x1x256_0_1_2 (broadcastInDim S1x1x256 ![1, 2] bcast_S1x256_S1x1x256_1_2 (broadcastInDim S1x256 ![1] bcast_S256_S1x256_1 (iotaInDim S256 32 0))))) (broadcastInDim S64x1x256 ![] bcast_S_S64x1x256 (constantI S_ 32 0#32)))))

/-- The keys or the values with one block of zeros before each sequence, in blocks. -/
def padded (w : Vec Ideal S4x8192x256 .f32) : Vec Ideal S4x65x128x4x64 .f32 :=
  shapeCast _ (pad S4x8320x4x64 ![0, 128, 0, 0] ![0, 0, 0, 0] ![0, 0, 0, 0] (shapeCast _ w shapeCasts_S4x8192x256_S4x8192x4x64) (sitofp (F := Ideal) .f32 (constantI S_ 32 0#32)) pads_S4x8192x4x64_S4x8320x4x64_000_12800_000_000 h_S_) shapeCasts_S4x8320x4x64_S4x65x128x4x64

/-- The band of one block: the block before it, and its own. -/
def band (w : Vec Ideal S4x8192x256 .f32) : Vec Ideal S4x64x256x4x64 .f32 :=
  concatenate S4x64x256x4x64 2 [⟨S4x64x128x4x64, (extractStridedSlice S4x64x128x4x64 ![0, 0, 0, 0, 0] (padded w) slices_S4x65x128x4x64_S4x64x128x4x64_0_0_0_0_0)⟩, ⟨S4x64x128x4x64, (extractStridedSlice S4x64x128x4x64 ![0, 1, 0, 0, 0] (padded w) slices_S4x65x128x4x64_S4x64x128x4x64_0_1_0_0_0)⟩] concatenates_S4x64x128x4x64_S4x64x128x4x64_S4x64x256x4x64_d2

/-- The keys. -/
def keys (P : Vec Ideal S4x8192x8704 .f32) : Vec Ideal S4x8192x256 .f32 :=
  extractStridedSlice S4x8192x256 ![0, 0, 3072] P slices_S4x8192x8704_S4x8192x256_0_0_3072

/-- The values. -/
def values (P : Vec Ideal S4x8192x8704 .f32) : Vec Ideal S4x8192x256 .f32 :=
  extractStridedSlice S4x8192x256 ![0, 0, 3328] P slices_S4x8192x8704_S4x8192x256_0_0_3328

/-- The queries. -/
def queries (P : Vec Ideal S4x8192x8704 .f32) : Vec Ideal S4x64x128x4x4x64 .f32 :=
  shapeCast _ (extractStridedSlice S4x8192x1024 ![0, 0, 2048] P slices_S4x8192x8704_S4x8192x1024_0_0_2048) shapeCasts_S4x8192x1024_S4x64x128x4x4x64

/-- The logits before the mask. -/
def unmasked (P : Vec Ideal S4x8192x8704 .f32) (T : Vec Ideal S32x16 .f32) : Vec Ideal S4x64x4x4x128x256 .f32 :=
  addf (F := Ideal) (φ := .f32) (mulf (F := Ideal) (φ := .f32) (transpose S4x64x4x4x128x256 [0, 1, 2, 5, 4, 3] (Host.dotGeneral (F := Ideal) (φ₁ := .f32) (φ₂ := .f32) dot_S4x64x256x4x64_S4x64x128x4x4x64_S4x64x4x256x128x4_4_5_2_24_013_013 none (band (keys P)) (queries P)) transposes_S4x64x4x256x128x4_S4x64x4x4x128x256_0_1_2_5_4_3) (broadcastInDim S4x64x4x4x128x256 ![] bcast_S_S4x64x4x4x128x256 (constant (F := Ideal) S_ .f32 0x3E000000#32))) (broadcastInDim S4x64x4x4x128x256 ![0, 1, 2, 3, 4, 5] bcast_S1x1x4x4x128x256_S4x64x4x4x128x256_0_1_2_3_4_5 (broadcastInDim S1x1x4x4x128x256 ![2, 3, 4, 5] bcast_S4x4x128x256_S1x1x4x4x128x256_2_3_4_5 (bias T)))

/-- The logits. -/
def logits (P : Vec Ideal S4x8192x8704 .f32) (T : Vec Ideal S32x16 .f32) : Vec Ideal S4x64x4x4x128x256 .f32 :=
  select (broadcastInDim S4x64x4x4x128x256 ![0, 1, 2, 3, 4, 5] bcast_S1x64x1x1x128x256_S4x64x4x4x128x256_0_1_2_3_4_5 mask) (unmasked P T) (broadcastInDim S4x64x4x4x128x256 ![] bcast_S_S4x64x4x4x128x256 (id (constant (F := Ideal) S_ .f32 0xFF800000#32)))

/-- The largest logit of a row. -/
def largest (P : Vec Ideal S4x8192x8704 .f32) (T : Vec Ideal S32x16 .f32) : Vec Ideal S4x64x4x4x128 .f32 :=
  Host.reduce (FloatOps.maximumf (F := Ideal) (φ := .f32)) (logits P T) (constant (F := Ideal) S_ .f32 0xFF800000#32) reducesTo_S4x64x4x4x128x256_S4x64x4x4x128_d5 h_S_

/-- The largest logit of a row, the sink among them. -/
def rowMax (P : Vec Ideal S4x8192x8704 .f32) (Sk : Vec Ideal S16 .f32) (T : Vec Ideal S32x16 .f32) : Vec Ideal S4x64x4x4x128x1 .f32 :=
  maximumf (F := Ideal) (φ := .f32) (broadcastInDim S4x64x4x4x128x1 ![0, 1, 2, 3, 4] bcast_S4x64x4x4x128_S4x64x4x4x128x1_0_1_2_3_4 (largest P T)) (broadcastInDim S4x64x4x4x128x1 ![0, 1, 2, 3, 4, 5] bcast_S1x1x4x4x1x1_S4x64x4x4x128x1_0_1_2_3_4_5 (broadcastInDim S1x1x4x4x1x1 ![2, 3] bcast_S4x4_S1x1x4x4x1x1_2_3 (shapeCast _ Sk shapeCasts_S16_S4x4)))

/-- The weights of a row before they are normalized. -/
def weights (P : Vec Ideal S4x8192x8704 .f32) (Sk : Vec Ideal S16 .f32) (T : Vec Ideal S32x16 .f32) : Vec Ideal S4x64x4x4x128x256 .f32 :=
  Host.exp (F := Ideal) (φ := .f32) (subf (F := Ideal) (φ := .f32) (logits P T) (broadcastInDim S4x64x4x4x128x256 ![0, 1, 2, 3, 4, 5] bcast_S4x64x4x4x128x1_S4x64x4x4x128x256_0_1_2_3_4_5 (rowMax P Sk T)))

/-- The sum of the weights of a row. -/
def total (P : Vec Ideal S4x8192x8704 .f32) (Sk : Vec Ideal S16 .f32) (T : Vec Ideal S32x16 .f32) : Vec Ideal S4x64x4x4x128 .f32 :=
  Host.reduceAdd (F := Ideal) (φ := .f32) (weights P Sk T) (constant (F := Ideal) S_ .f32 0x00000000#32) reducesTo_S4x64x4x4x128x256_S4x64x4x4x128_d5 h_S_

/-- The weights of a row. -/
def probs (P : Vec Ideal S4x8192x8704 .f32) (Sk : Vec Ideal S16 .f32) (T : Vec Ideal S32x16 .f32) : Vec Ideal S4x64x4x4x128x256 .f32 :=
  Host.divf (F := Ideal) (φ := .f32) (weights P Sk T) (broadcastInDim S4x64x4x4x128x256 ![0, 1, 2, 3, 4, 5] bcast_S4x64x4x4x128x1_S4x64x4x4x128x256_0_1_2_3_4_5 (addf (F := Ideal) (φ := .f32) (broadcastInDim S4x64x4x4x128x1 ![0, 1, 2, 3, 4] bcast_S4x64x4x4x128_S4x64x4x4x128x1_0_1_2_3_4 (total P Sk T)) (Host.exp (F := Ideal) (φ := .f32) (subf (F := Ideal) (φ := .f32) (broadcastInDim S4x64x4x4x128x1 ![0, 1, 2, 3, 4, 5] bcast_S1x1x4x4x1x1_S4x64x4x4x128x1_0_1_2_3_4_5 (broadcastInDim S1x1x4x4x1x1 ![2, 3] bcast_S4x4_S1x1x4x4x1x1_2_3 (shapeCast _ Sk shapeCasts_S16_S4x4))) (rowMax P Sk T)))))

/-- The values of a band by its weights. -/
def mixed (P : Vec Ideal S4x8192x8704 .f32) (Sk : Vec Ideal S16 .f32) (T : Vec Ideal S32x16 .f32) : Vec Ideal S4x64x4x64x4x128 .f32 :=
  Host.dotGeneral (F := Ideal) (φ₁ := .f32) (φ₂ := .f32) dot_S4x64x256x4x64_S4x64x4x4x128x256_S4x64x4x64x4x128_2_5_4_34_013_012 none (band (values P)) (probs P Sk T)

/-- The heads side by side. -/
def heads (P : Vec Ideal S4x8192x8704 .f32) (Sk : Vec Ideal S16 .f32) (T : Vec Ideal S32x16 .f32) : Vec Ideal S4x8192x1024 .f32 :=
  shapeCast _ (transpose S4x64x128x4x4x64 [0, 1, 5, 2, 4, 3] (mixed P Sk T) transposes_S4x64x4x64x4x128_S4x64x128x4x4x64_0_1_5_2_4_3) shapeCasts_S4x64x128x4x4x64_S4x8192x1024

/-- The gate. -/
def gate (P : Vec Ideal S4x8192x8704 .f32) : Vec Ideal S4x8192x1024 .f32 :=
  extractStridedSlice S4x8192x1024 ![0, 0, 3584] P slices_S4x8192x8704_S4x8192x1024_0_0_3584

/-- The logistic as the reference writes it. -/
def logistic (x : Vec Ideal S4x8192x1024 .f32) : Vec Ideal S4x8192x1024 .f32 :=
  Host.divf (F := Ideal) (φ := .f32) (broadcastInDim S4x8192x1024 ![] bcast_S_S4x8192x1024 (constant (F := Ideal) S_ .f32 0x3F800000#32)) (addf (F := Ideal) (φ := .f32) (broadcastInDim S4x8192x1024 ![] bcast_S_S4x8192x1024 (constant (F := Ideal) S_ .f32 0x3F800000#32)) (Host.exp (F := Ideal) (φ := .f32) (Host.negf (F := Ideal) (φ := .f32) x)))

/-- The heads by their gates. -/
def gated (P : Vec Ideal S4x8192x8704 .f32) (Sk : Vec Ideal S16 .f32) (T : Vec Ideal S32x16 .f32) : Vec Ideal S4x8192x1024 .f32 :=
  mulf (F := Ideal) (φ := .f32) (heads P Sk T) (mulf (F := Ideal) (φ := .f32) (gate P) (logistic (gate P)))

/-- The result, in its order of heads. -/
def out (P : Vec Ideal S4x8192x8704 .f32) (Sk : Vec Ideal S16 .f32) (T : Vec Ideal S32x16 .f32) : Vec Ideal S32768x1024 .bf16 :=
  truncf (F := Ideal) .bf16 (shapeCast _ (transpose S32768x2x4x2x64 [0, 1, 3, 2, 4] (shapeCast _ (gated P Sk T) shapeCasts_S4x8192x1024_S32768x2x2x4x64) transposes_S32768x2x2x4x64_S32768x2x4x2x64_0_1_3_2_4) shapeCasts_S32768x2x4x2x64_S32768x1024) bitsLt_bf16_f32

theorem res_eq (m : (ℓ : Loc nD τ sig) → Buf (Elt Ideal) ℓ) (c : Dev nD) :
    res_main_v112 m c = out (m ((c.tc : Thread nD τ).loc main_arg0)) (m ((c.tc : Thread nD τ).loc main_arg1)) (m ((c.tc : Thread nD τ).loc main_arg2)) := by
  unfold res_main_v112
  rfl

/-! ### Sums and maxima along the last of six axes -/

section Last
variable {n0 n1 n2 n3 n4 n5 : Nat} (h : (⟨6, ![n0, n1, n2, n3, n4, n5]⟩ : Shape).ReducesTo [5] ⟨5, ![n0, n1, n2, n3, n4]⟩)
  (a : Fin n0) (b : Fin n1) (c : Fin n2) (d : Fin n3) (e : Fin n4)

theorem last_iff (i : (⟨6, ![n0, n1, n2, n3, n4, n5]⟩ : Shape).Idx) : h.drop i = ix5 a b c d e ↔ ∃ k : Fin n5, ix6 a b c d e k = i := by
  constructor
  · intro q
    refine ⟨i 5, funext fun x => Fin.ext ?_⟩
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    refine funext fun x => Fin.ext ?_
    match x with
    | ⟨0, _⟩ => rfl
    | ⟨1, _⟩ => rfl
    | ⟨2, _⟩ => rfl
    | ⟨3, _⟩ => rfl
    | ⟨4, _⟩ => rfl

theorem sum_last (w : FVec Ideal ⟨6, ![n0, n1, n2, n3, n4, n5]⟩ .f32) {u : Shape} (init : u.Idx → Ideal .f32) (hu : 0 < u.numel) (hz : init (Shape.Idx.first hu) = (0 : EReal)) :
    Host.reduceAdd (F := Ideal) (φ := .f32) w init h hu (ix5 a b c d e) = ∑ k : Fin n5, w (ix6 a b c d e k) := by
  show init (Shape.Idx.first hu) + ∑ i ∈ Finset.univ.filter (fun i => h.drop i = ix5 a b c d e), w i = _
  rw [hz, zero_add]
  exact Finset.sum_filter_eq_sum_of_fiber _ (fun k : Fin n5 => ix6 a b c d e k) (fun _ _ q => congrFun q 5) (last_iff h a b c d e) w

theorem max_last (w : FVec Ideal ⟨6, ![n0, n1, n2, n3, n4, n5]⟩ .f32) {u : Shape} (init : u.Idx → Ideal .f32) (hu : 0 < u.numel) (hz : init (Shape.Idx.first hu) = (⊥ : EReal)) :
    Host.reduce (FloatOps.maximumf (F := Ideal) (φ := .f32)) w init h hu (ix5 a b c d e) = Finset.univ.sup fun k : Fin n5 => (w (ix6 a b c d e k) : EReal) := by
  refine (Host.reduce_eq_fold (max : EReal → EReal → EReal) w init h hu _).trans ?_
  rw [hz]
  exact Finset.fold_filter_eq_fold_of_fiber (max : EReal → EReal → EReal) _ (fun k : Fin n5 => ix6 a b c d e k) (fun _ _ q => congrFun q 5) (last_iff h a b c d e) ⊥ w

end Last

/-! ### The distances and the mask -/

open Cert.KernelIdeal.Attn (unfold bucketOf)

theorem dist_apply (i : Fin 128) (j : Fin 256) : dist (ix2 i j) = BitVec.ofNat 32 (128 + i.val) - BitVec.ofNat 32 j.val := by
  pointwise [dist]
  rw [show IntOp.addi 128#32 (BitVec.ofNat 32 i.val) = BitVec.ofNat 32 (128 + i.val) from (BitVec.ofNat_add 128 i.val).symm]
  rfl

theorem word_sub (a b : Nat) (h : b ≤ a) (ha : a < 2 ^ 32) : BitVec.ofNat 32 a - BitVec.ofNat 32 b = BitVec.ofNat 32 (a - b) := by
  apply BitVec.eq_of_toNat_eq
  rw [BitVec.toNat_sub, BitVec.toNat_ofNat, BitVec.toNat_ofNat, BitVec.toNat_ofNat]
  omega

/-- On the folded columns the distance is a natural below 128. -/
theorem dist_folded (i c : Fin 128) : dist (ix2 i (unfold i c)) = BitVec.ofNat 32 (Cert.KernelIdeal.Attn.dist i c).val := by
  rw [dist_apply, word_sub _ _ (by unfold unfold; split_ifs <;> (try simp only []) <;> omega) (by omega)]
  rfl

theorem clip_word : ∀ d : Fin 128, IntOp.maxsi 0#32 (BitVec.ofNat 32 d.val) = BitVec.ofNat 32 d.val := by decide +kernel
theorem one_word : ∀ d : Fin 128, 16 ≤ d.val → IntOp.maxsi (BitVec.ofNat 32 d.val) 1#32 = BitVec.ofNat 32 d.val := by decide +kernel
theorem large_word : ∀ d : Fin 128, 16 ≤ d.val → IntOp.minsi (IntOp.addi 16#32 (BitVec.ofNat 32 (bucketOf d.val - 16))) 31#32 = BitVec.ofNat 32 (bucketOf d.val) := by decide +kernel
theorem small_word : ∀ d : Fin 128, IntOp.cmpi .slt (BitVec.ofNat 32 d.val) 16#32 = if d.val < 16 then 1#1 else 0#1 := by decide +kernel
theorem small_bucket : ∀ d : Fin 128, d.val < 16 → bucketOf d.val = d.val := by decide +kernel
theorem index_word : ∀ b : Fin 32, IntOp.cmpi .slt (BitVec.ofNat 32 b.val) 0#32 = 0#1 := by decide +kernel
theorem row_word : ∀ b : Fin 32, min (BitVec.ofNat 32 b.val).toInt.toNat 31 = b.val := by decide +kernel
theorem near_word : ∀ d : Fin 128, IntOp.andi (IntOp.cmpi .sge (BitVec.ofNat 32 d.val) 0#32) (IntOp.cmpi .slt (BitVec.ofNat 32 d.val) 128#32) = 1#1 := by decide +kernel
theorem far_word : ∀ d : Fin 256, 128 ≤ d.val → IntOp.andi (IntOp.cmpi .sge (BitVec.ofNat 32 d.val) 0#32) (IntOp.cmpi .slt (BitVec.ofNat 32 d.val) 128#32) = 0#1 := by decide +kernel
theorem ahead_word : ∀ d : Fin 256, 0 < d.val → IntOp.andi (IntOp.cmpi .sge (0#32 - BitVec.ofNat 32 d.val) 0#32) (IntOp.cmpi .slt (0#32 - BitVec.ofNat 32 d.val) 128#32) = 0#1 := by decide +kernel

theorem clip_folded (i c : Fin 128) : clip (ix2 i (unfold i c)) = BitVec.ofNat 32 (Cert.KernelIdeal.Attn.dist i c).val := by
  pointwise [clip]
  refine Eq.trans (congrArg (IntOp.maxsi 0#32) (dist_folded i c)) (clip_word _)

theorem large_folded (i c : Fin 128) (h : 16 ≤ (Cert.KernelIdeal.Attn.dist i c).val) :
    large (ix2 i (unfold i c)) = BitVec.ofNat 32 (bucketOf (Cert.KernelIdeal.Attn.dist i c).val) := by
  pointwise [large]
  rw [clip_folded, one_word _ h, show (FloatOps.sitofp (F := Ideal) .f32 (BitVec.ofNat 32 (Cert.KernelIdeal.Attn.dist i c).val) : EReal) = (((Cert.KernelIdeal.Attn.dist i c).val : ℝ) : EReal) from ?_]
  · refine Eq.trans (congrArg (fun w => IntOp.minsi (IntOp.addi 16#32 w) 31#32) (Bucket.floor_step _ h)) (large_word _ h)
  · show (((BitVec.ofNat 32 (Cert.KernelIdeal.Attn.dist i c).val).toInt : ℝ) : EReal) = _
    rw [WordCmp.toInt_ofNat_of_lt (by have := (Cert.KernelIdeal.Attn.dist i c).isLt; omega)]
    norm_cast

theorem bucket_folded (i c : Fin 128) : bucket (ix2 i (unfold i c)) = BitVec.ofNat 32 (bucketOf (Cert.KernelIdeal.Attn.dist i c).val) := by
  pointwise [bucket]
  rw [clip_folded, small_word]
  by_cases h : (Cert.KernelIdeal.Attn.dist i c).val < 16
  · rw [if_pos h, small_bucket _ h]
    rfl
  · rw [if_neg h, large_folded i c (by omega)]
    rfl

theorem index_folded (i c : Fin 128) : index (ix2 i (unfold i c)) = BitVec.ofNat 32 (Cert.KernelIdeal.Attn.bucket i c).val := by
  pointwise [index]
  rw [bucket_folded]
  refine Eq.trans (congrArg (fun b => Scalar.select b _ _) (index_word (Cert.KernelIdeal.Attn.bucket i c))) ?_
  rfl

theorem gather_apply (T : Vec Ideal S32x16 .f32) (x : IVec S128x256x1 32) (i : Fin 128) (j : Fin 256) (k : Fin 16) :
    Host.gather gather_S32x16_S128x256x1_S128x256x16_2_0_n_n_0_2_116 T x (ix3 i j k) = T (ix2 ⟨min (x (ix3 i j 0)).toInt.toNat 31, by omega⟩ k) := by
  unfold Host.gather
  refine congrArg T (funext fun a => Fin.ext ?_)
  show GatherDims.start gather_S32x16_S128x256x1_S128x256x16_2_0_n_n_0_2_116 (ix3 i j k) x a + GatherDims.batchCoord gather_S32x16_S128x256x1_S128x256x16_2_0_n_n_0_2_116 (ix3 i j k) a
    + GatherDims.offCoord gather_S32x16_S128x256x1_S128x256x16_2_0_n_n_0_2_116 (ix3 i j k) a = _
  rw [GatherDims.batchCoord_eq_zero _ _ _ (fun h => by cases h), Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ GatherDims.startIndexMap gather_S32x16_S128x256x1_S128x256x16_2_0_n_n_0_2_116 from List.mem_singleton.mpr rfl)]
    refine congrArg (fun y => min (x y).toInt.toNat 31) (funext fun b => Fin.ext ?_)
    match b with
    | ⟨0, _⟩ => rfl
    | ⟨1, _⟩ => rfl
    | ⟨2, _⟩ => rfl
  · unfold GatherDims.start
    rw [dif_neg (show ¬ (1 : Fin 2) ∈ GatherDims.startIndexMap gather_S32x16_S128x256x1_S128x256x16_2_0_n_n_0_2_116 from fun h => absurd (List.mem_singleton.mp h) (by decide)), Nat.zero_add]
    unfold GatherDims.offCoord
    rw [dif_pos (show (1 : Fin 2) ∈ GatherDims.sKept gather_S32x16_S128x256x1_S128x256x16_2_0_n_n_0_2_116 from (GatherDims.mem_sKept _ _).mpr ⟨fun h => absurd (List.mem_singleton.mp h) (by decide), fun h => by cases h⟩)]
    rfl

theorem bias_folded (T : Vec Ideal S32x16 .f32) (p g : Fin 4) (i c : Fin 128) :
    bias T (ix4 p g i (unfold i c)) = T (ix2 (Cert.KernelIdeal.Attn.bucket i c) ⟨4 * p.val + g.val, by omega⟩) := by
  pointwise [bias]
  refine (gather_apply T _ i (unfold i c) _).trans (congrArg₂ (fun a b => T (ix2 a b)) (Fin.ext ?_) (Fin.ext ?_))
  · simp only []
    rw [show broadcastInDim S128x256x1 ![0, 1] bcast_S128x256_S128x256x1_0_1 index (ix3 i (unfold i c) 0) = index (ix2 i (unfold i c)) by pointwise [], index_folded]
    exact row_word _
  · simp only []; omega

theorem bandOk_folded (i c : Fin 128) : bandOk (ix2 i (unfold i c)) = 1#1 := by
  pointwise [bandOk]
  rw [dist_folded]
  exact near_word _

theorem bandOk_other (i : Fin 128) (j : Fin 256) (h : ∀ c, unfold i c ≠ j) : bandOk (ix2 i j) = 0#1 := by
  pointwise [bandOk]
  rw [dist_apply]
  have hj : j.val ≤ i.val ∨ 128 + i.val < j.val := by
    by_contra hc
    push Not at hc
    by_cases h1 : j.val < 128
    · exact h ⟨j.val, h1⟩ (by unfold unfold; rw [if_neg (by show ¬ j.val ≤ i.val; omega)])
    · refine h ⟨j.val - 128, by omega⟩ ?_
      unfold unfold
      rw [if_pos (by show j.val - 128 ≤ i.val; omega)]
      exact Fin.ext (by simp only []; omega)
  rcases hj with hj | hj
  · rw [word_sub _ _ (by omega) (by omega)]
    exact far_word ⟨128 + i.val - j.val, by omega⟩ (by simp only []; omega)
  · rw [show BitVec.ofNat 32 (128 + i.val) - BitVec.ofNat 32 j.val = 0#32 - BitVec.ofNat 32 (j.val - (128 + i.val)) from ?_]
    · exact ahead_word ⟨j.val - (128 + i.val), by omega⟩ (by simp only []; omega)
    · apply BitVec.eq_of_toNat_eq
      simp only [BitVec.toNat_sub, BitVec.toNat_ofNat]
      omega

theorem first_word : ∀ j : Fin 128, IntOp.cmpi .sge (IntOp.addi (IntOp.subi (IntOp.muli (BitVec.ofNat 32 0) 128#32) 128#32) (BitVec.ofNat 32 j.val)) 0#32 = 0#1 := by decide +kernel

theorem later_word (n : Fin 64) (j : Fin 256) (h : 128 ≤ 128 * n.val + j.val) :
    IntOp.cmpi .sge (IntOp.addi (IntOp.subi (IntOp.muli (BitVec.ofNat 32 n.val) 128#32) 128#32) (BitVec.ofNat 32 j.val)) 0#32 = 1#1 := by
  rw [show IntOp.addi (IntOp.subi (IntOp.muli (BitVec.ofNat 32 n.val) 128#32) 128#32) (BitVec.ofNat 32 j.val) = BitVec.ofNat 32 (128 * n.val + j.val - 128) from ?_]
  · exact (WordCmp.cmpi_sge_ofNat_eq_one_iff (w := 32) (b := 0) (by omega) (by omega)).mpr (by omega)
  · show BitVec.ofNat 32 n.val * 128#32 - 128#32 + BitVec.ofNat 32 j.val = _
    apply BitVec.eq_of_toNat_eq
    simp only [BitVec.toNat_sub, BitVec.toNat_add, BitVec.toNat_mul, BitVec.toNat_ofNat]
    omega

theorem mask_other (n : Fin 64) (i : Fin 128) (j : Fin 256) (h : ∀ c, unfold i c ≠ j) : mask (ix6 0 n 0 0 i j) = 0#1 := by
  pointwise [mask]
  rw [bandOk_other i j h]
  exact BitVec.zero_and

theorem mask_folded (n : Fin 64) (i c : Fin 128) : mask (ix6 0 n 0 0 i (unfold i c)) = if n.val = 0 ∧ ¬ c.val ≤ i.val then 0#1 else 1#1 := by
  pointwise [mask]
  rw [bandOk_folded]
  split_ifs with h
  · obtain ⟨h0, hc⟩ := h
    obtain rfl : n = 0 := Fin.ext h0
    rw [show unfold i c = ⟨c.val, by omega⟩ by unfold unfold; rw [if_neg (by exact hc)]]
    exact (congrArg (IntOp.andi 1#1) (first_word c)).trans (by decide)
  · rw [later_word n (unfold i c) (by unfold unfold; split_ifs with hc <;> simp only [] <;> [omega; (have : ¬ n.val = 0 := fun e => h ⟨e, hc⟩; omega)])]
    decide

/-! ### The logits -/

open Cert.KernelIdeal.Attn (entry queryRow keyRow headOf logit product Finite attention result)

/-- A head among the reference's four groups. -/
def group (p u : Fin 2) : Fin 4 := ⟨2 * p.val + u.val, by omega⟩

/-- A block of 128 rows among all sequences'. -/
def block (b : Fin 4) (n : Fin 64) : Fin 256 := ⟨64 * b.val + n.val, by omega⟩

section Rows
variable (P : Vec Ideal S4x8192x8704 .f32) (Sk : Vec Ideal S16 .f32) (T : Vec Ideal S32x16 .f32)
  (b : Fin 4) (n : Fin 64) (i : Fin 128)

theorem entry_query (k : Fin 8704) : entry P (queryRow (block b n) i) k = P (ix3 b ⟨128 * n.val + i.val, by omega⟩ k) := by
  unfold entry queryRow block
  refine congrArg₂ (fun x y => P (ix3 x y k)) (Fin.ext ?_) (Fin.ext ?_) <;> (try simp only []) <;> omega

theorem entry_key (j : Fin 256) (h : 128 ≤ 128 * n.val + j.val) (k : Fin 8704) :
    entry P (keyRow (block b n) j) k = P (ix3 b ⟨128 * n.val + j.val - 128, by omega⟩ k) := by
  unfold entry keyRow block
  refine congrArg₂ (fun x y => P (ix3 x y k)) (Fin.ext ?_) (Fin.ext ?_) <;> (try simp only []) <;> split_ifs <;> (try simp only []) <;> omega

theorem band_apply (w : Vec Ideal S4x8192x256 .f32) (j : Fin 256) (hj : 128 ≤ 128 * n.val + j.val) (h : Fin 4) (d : Fin 64) :
    band w (ix5 b n j h d) = w (ix3 b ⟨128 * n.val + j.val - 128, by omega⟩ ⟨64 * h.val + d.val, by omega⟩) := by
  pointwise [band, padded]
  split_ifs <;> first
    | omega
    | exact congrArg₂ (fun x y => w (ix3 b x y)) (Fin.ext (by simp only []; omega)) (Fin.ext (by simp only []; omega))

theorem keys_apply (s : Fin 8192) (e : Fin 256) : keys P (ix3 b s e) = P (ix3 b s ⟨3072 + e.val, by omega⟩) := by
  pointwise [keys]

theorem values_apply (s : Fin 8192) (e : Fin 256) : values P (ix3 b s e) = P (ix3 b s ⟨3328 + e.val, by omega⟩) := by
  pointwise [values]

theorem queries_apply (p g : Fin 4) (d : Fin 64) :
    queries P (ix6 b n i p g d) = P (ix3 b ⟨128 * n.val + i.val, by omega⟩ ⟨2048 + (64 * (4 * p.val + g.val) + d.val), by omega⟩) := by
  pointwise [queries]
  exact congrArg₂ (fun x y => P (ix3 b x y)) (Fin.ext (by simp only []; omega)) (Fin.ext (by simp only []; omega))

theorem eighth : Ideal.ofBits .f32 0x3E000000#32 = ((1 / 8 : ℝ) : EReal) := by
  simp [Ideal.ofBits, Ideal.ieee, -EReal.coe_mul]; norm_num

theorem unmasked_apply (p g : Fin 4) (j : Fin 256) :
    unmasked P T (ix6 b n p g i j) = (∑ x : Fin 64, band (keys P) (ix5 b n j p x) * queries P (ix6 b n i p g x)) * ((1 / 8 : ℝ) : EReal) + bias T (ix4 p g i j) := by
  pointwise [unmasked]
  rw [eighth]

theorem logits_apply (p g : Fin 4) (j : Fin 256) :
    logits P T (ix6 b n p g i j) = Scalar.select (mask (ix6 0 n 0 0 i j)) (unmasked P T (ix6 b n p g i j)) (⊥ : EReal) := by
  pointwise [logits]
  exact congrArg (Scalar.select _ _) Cert.KernelIdeal.Attn.minus_infinity

theorem logits_other (p g : Fin 4) (j : Fin 256) (h : ∀ c, unfold i c ≠ j) : logits P T (ix6 b n p g i j) = (⊥ : EReal) := by
  rw [logits_apply, mask_other n i j h]
  rfl

theorem unfold_late (c : Fin 128) (h : ¬ (n.val = 0 ∧ ¬ c.val ≤ i.val)) : 128 ≤ 128 * n.val + (unfold i c).val := by
  unfold unfold
  split_ifs with hc
  · simp only []; omega
  · have : ¬ n.val = 0 := fun e => h ⟨e, hc⟩
    simp only []; omega

theorem logits_folded (p u : Fin 2) (g : Fin 4) (c : Fin 128) :
    logits P T (ix6 b n (group p u) g i (unfold i c)) = logit P T (block b n) i p u g c := by
  rw [logits_apply, mask_folded]
  unfold logit
  have hn : (block b n).val % 64 = n.val := by unfold block; simp only []; omega
  rw [hn]
  by_cases h : n.val = 0 ∧ ¬ c.val ≤ i.val
  · rw [if_pos h, if_pos h]
    rfl
  · rw [if_neg h, if_neg h]
    show unmasked P T (ix6 b n (group p u) g i (unfold i c)) = _
    rw [unmasked_apply, bias_folded]
    refine congrArg₂ (fun x y : EReal => x * ((1 / 8 : ℝ) : EReal) + y) (Finset.sum_congr rfl fun e _ => ?_) (congrArg (fun x => T (ix2 _ x)) (Fin.ext ?_))
    · rw [band_apply b n _ _ (unfold_late n i c h), keys_apply, queries_apply, entry_query, entry_key P b n _ (unfold_late n i c h), mul_comm]
      exact congrArg₂ (fun x y : Fin 8704 => P (ix3 b _ x) * P (ix3 b _ y)) (Fin.ext (by simp only [group]; omega)) (Fin.ext (by simp only [group]; omega))
    · simp only [group, headOf]; omega

end Rows

/-! ### The weights and the sum -/

/-- Products and maxima of arrays, entry by entry. -/
theorem mul_at {s : Shape} (x y : Vec Ideal s .f32) (j : s.Idx) (a b : EReal) (ha : x j = a) (hb : y j = b) : mulf (F := Ideal) (φ := .f32) x y j = a * b := by
  subst ha hb
  rfl

theorem max_at {s : Shape} (x y : Vec Ideal s .f32) (j : s.Idx) (a b : EReal) (ha : x j = a) (hb : y j = b) : maximumf (F := Ideal) (φ := .f32) x y j = max a b := by
  subst ha hb
  rfl

section Sum
variable (P : Vec Ideal S4x8192x8704 .f32) (Sk : Vec Ideal S16 .f32) (T : Vec Ideal S32x16 .f32)
  (b : Fin 4) (n : Fin 64) (p g : Fin 4) (i : Fin 128)

theorem largest_apply : largest P T (ix5 b n p g i) = Finset.univ.sup fun k : Fin 256 => (logits P T (ix6 b n p g i k) : EReal) := by
  unfold largest
  exact max_last _ b n p g i _ _ _ Cert.KernelIdeal.Attn.minus_infinity

theorem rowMax_largest (l s : EReal) (hl : largest P T (ix5 b n p g i) = l) (hs : Sk (ix1 ⟨4 * p.val + g.val, by omega⟩) = s) : rowMax P Sk T (ix6 b n p g i 0) = max l s := by
  unfold rowMax
  refine max_at _ _ _ _ _ (Eq.trans ?_ hl) (Eq.trans ?_ hs)
  · generalize largest P T = L
    pointwise
  · pointwise
    exact congrArg (fun x => Sk (ix1 x)) (Fin.ext (by simp only []; omega))

theorem rowMax_apply (s : EReal) (hs : Sk (ix1 ⟨4 * p.val + g.val, by omega⟩) = s) :
    rowMax P Sk T (ix6 b n p g i 0) = max (Finset.univ.sup fun k : Fin 256 => (logits P T (ix6 b n p g i k) : EReal)) s :=
  rowMax_largest P Sk T b n p g i _ s (largest_apply P T b n p g i) hs

theorem weights_apply (j : Fin 256) : weights P Sk T (ix6 b n p g i j) = Ideal.exp (logits P T (ix6 b n p g i j) - rowMax P Sk T (ix6 b n p g i 0)) := by
  pointwise [weights]

theorem total_apply : total P Sk T (ix5 b n p g i) = ∑ k : Fin 256, weights P Sk T (ix6 b n p g i k) := by
  unfold total
  exact sum_last _ b n p g i _ _ _ Ideal.ofBits_zero_f32

theorem probs_apply (j : Fin 256) : probs P Sk T (ix6 b n p g i j) = Ideal.div (weights P Sk T (ix6 b n p g i j))
    (total P Sk T (ix5 b n p g i) + Ideal.exp (Sk (ix1 ⟨4 * p.val + g.val, by omega⟩) - rowMax P Sk T (ix6 b n p g i 0))) := by
  pointwise [probs]
  exact congrArg (fun x => Ideal.div _ (_ + Ideal.exp (Sk (ix1 x) - _))) (Fin.ext (by simp only []; omega))

theorem mixed_apply (d : Fin 64) : mixed P Sk T (ix6 b n p d g i) = ∑ x : Fin 256, band (values P) (ix5 b n x p d) * probs P Sk T (ix6 b n p g i x) := by
  pointwise [mixed]

end Sum

theorem unfold_injective (i : Fin 128) : Function.Injective (unfold i) := by
  intro a c h
  have := congrArg Fin.val h
  unfold unfold at this
  refine Fin.ext ?_
  split_ifs at this <;> simp only [] at this <;> omega

/-- Where a key is left out its value does not matter. -/
theorem attend_congr {ι : Type} [Fintype ι] (L L' : ι → EReal) (S : EReal) (v v' : ι → EReal) (h : ∀ c, L c = L' c) (hv : ∀ c, L' c ≠ ⊥ → v c = v' c) :
    Softmax.attend L S v = Softmax.attend L' S v' := by
  obtain rfl : L = L' := funext h
  unfold Softmax.attend
  refine congrArg (fun x => Ideal.div x _) (Finset.sum_congr rfl fun c _ => ?_)
  by_cases hc : L c = ⊥
  · rw [hc, show Ideal.exp ⊥ = 0 from rfl, zero_mul, zero_mul]
  · rw [hv c hc]

section Final
variable (P : Vec Ideal S4x8192x8704 .f32) (Sk : Vec Ideal S16 .f32) (T : Vec Ideal S32x16 .f32)

theorem mixed_eq (hf : Finite P Sk T) (b : Fin 4) (n : Fin 64) (p u : Fin 2) (g : Fin 4) (i : Fin 128) (d : Fin 64) :
    mixed P Sk T (ix6 b n (group p u) d g i) = Softmax.attend (logit P T (block b n) i p u g) (Sk (ix1 (headOf p g u)))
      (fun c => entry P (keyRow (block b n) (unfold i c)) ⟨3328 + (128 * p.val + (64 * u.val + d.val)), by omega⟩) := by
  obtain ⟨s, hs⟩ := hf.sinks (headOf p g u)
  have hh : (⟨4 * (group p u).val + g.val, by omega⟩ : Fin 16) = headOf p g u := Fin.ext (by simp only [group, headOf]; omega)
  have hL : ∀ j : Fin 256, (logits P T (ix6 b n (group p u) g i j) : EReal) ≠ ⊤ := fun j => by
    by_cases h : ∃ c, unfold i c = j
    · obtain ⟨c, rfl⟩ := h
      rw [logits_folded]
      exact hf.logit _ _ _ _ _ _
    · rw [logits_other P T b n i _ _ j fun c e => h ⟨c, e⟩]
      exact bot_ne_top
  rw [mixed_apply, hs]
  refine Eq.trans (Finset.sum_congr rfl fun j _ => ?_) (Softmax.natural (fun j : Fin 256 => (logits P T (ix6 b n (group p u) g i j) : EReal)) s (fun j => band (values P) (ix5 b n j (group p u) d)) hL) |>.trans ?_
  · rw [probs_apply, total_apply, hh, hs, mul_comm]
    have hr := rowMax_apply P Sk T b n (group p u) g i s ((congrArg (fun x => Sk (ix1 x)) hh).trans hs)
    simp only [weights_apply, hr]
  · rw [← Softmax.attend_comp (unfold i) (unfold_injective i) _ _ _ fun j h => logits_other P T b n i _ _ j h]
    refine attend_congr _ _ _ _ _ (fun c => logits_folded P T b n i p u g c) fun c hc => ?_
    have h : ¬ (n.val = 0 ∧ ¬ c.val ≤ i.val) := fun h => hc (if_pos ⟨by show (64 * b.val + n.val) % 64 = 0; omega, h.2⟩)
    rw [band_apply b n _ _ (unfold_late n i c h), values_apply, entry_key P b n _ (unfold_late n i c h)]
    exact congrArg (fun x => P (ix3 b _ x)) (Fin.ext (by simp only [group]; omega))

theorem heads_apply (b : Fin 4) (n : Fin 64) (i : Fin 128) (p g : Fin 4) (d : Fin 64) :
    heads P Sk T (ix3 b ⟨128 * n.val + i.val, by omega⟩ ⟨64 * (4 * p.val + g.val) + d.val, by omega⟩) = mixed P Sk T (ix6 b n p d g i) := by
  pointwise [heads]

theorem gate_apply (b : Fin 4) (s : Fin 8192) (e : Fin 1024) : gate P (ix3 b s e) = P (ix3 b s ⟨3584 + e.val, by omega⟩) := by
  pointwise [gate]

theorem logistic_apply (x : Vec Ideal S4x8192x1024 .f32) (a : Fin 4) (r : Fin 8192) (n : Fin 1024) :
    logistic x (ix3 a r n) = Ideal.logistic (x (ix3 a r n)) := by
  pointwise [logistic]
  simp only [Ideal.logistic, Ideal.ofBits_one_f32]

theorem gated_apply (b : Fin 4) (s : Fin 8192) (e : Fin 1024) (h z : EReal) (hh : heads P Sk T (ix3 b s e) = h) (hz : P (ix3 b s ⟨3584 + e.val, by omega⟩) = z) :
    gated P Sk T (ix3 b s e) = h * (z * Ideal.logistic z) := by
  have hg := (gate_apply P b s e).trans hz
  exact mul_at _ _ _ _ _ hh (mul_at _ _ _ _ _ hg ((logistic_apply (gate P) b s e).trans (congrArg Ideal.logistic hg)))

theorem out_apply (R : Fin 32768) (p u : Fin 2) (g : Fin 4) (d : Fin 64) :
    out P Sk T (ix2 R ⟨128 * (4 * p.val + g.val) + (64 * u.val + d.val), by omega⟩)
      = gated P Sk T (ix3 ⟨R.val / 8192, by omega⟩ ⟨R.val % 8192, by omega⟩ ⟨64 * (4 * (group p u).val + g.val) + d.val, by omega⟩) := by
  pointwise [out]
  refine congrArg (fun x => gated P Sk T (ix3 _ _ x)) (Fin.ext ?_)
  simp only [group]; omega

theorem out_eq (hf : Finite P Sk T) : out P Sk T = result P Sk T := by
  funext j
  idx_vars j
  obtain ⟨N, i, p, u, g, d, rfl, rfl⟩ := Cert.KernelIdeal.Attn.split_index j0 j1
  obtain ⟨b, n, rfl⟩ : ∃ (b : Fin 4) (n : Fin 64), N = block b n := ⟨⟨N.val / 64, by omega⟩, ⟨N.val % 64, by omega⟩, Fin.ext (by simp only [block]; omega)⟩
  rw [Cert.KernelIdeal.Attn.result_apply, out_apply]
  have hb : (⟨(128 * (block b n).val + i.val) / 8192, by have := (block b n).isLt; omega⟩ : Fin 4) = b := Fin.ext (by simp only [block]; omega)
  have hr : (⟨(128 * (block b n).val + i.val) % 8192, by omega⟩ : Fin 8192) = ⟨128 * n.val + i.val, by omega⟩ := Fin.ext (by simp only [block]; omega)
  rw [hb, hr, gated_apply P Sk T b _ _ _ _ ((heads_apply P Sk T b n i (group p u) g d).trans (mixed_eq P Sk T hf b n p u g i d)) rfl]
  unfold attention Cert.KernelIdeal.Attn.gate
  rw [entry_query]
  exact congrArg (fun k : Fin 8704 => Softmax.attend _ _ _ * (P (ix3 b _ k) * Ideal.logistic (P (ix3 b _ k)))) (Fin.ext (by simp only [group]; omega))

end Final

end Cert.ReferenceIdeal.Attn

end
-- ==== Proof.AttnPre.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.AttnSpec
public import proofs.«01_k».proof.Proof.Pre

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal

theorem infinity : Ideal.ofBits .f32 0x7F800000#32 = (⊤ : EReal) := by
  simp [Ideal.ofBits, Ideal.ieee]

/-- What lies below infinity in absolute value is real. -/
theorem real_of_below (a : Ideal .f32) (h : FloatOps.cmpf (F := Ideal) (φ := .f32) .olt (FloatOps.absf a) (Ideal.ofBits .f32 0x7F800000#32) = 1#1) : ∃ x : ℝ, (a : EReal) = x := by
  rw [infinity] at h
  have h' : max a (-a) < (⊤ : EReal) := by
    by_contra hc
    have : FloatOps.cmpf (F := Ideal) (φ := .f32) .olt (FloatOps.absf a) (⊤ : EReal) = 0#1 := congrArg BitVec.ofBool (decide_eq_false hc)
    rw [this] at h
    exact absurd h (by decide)
  induction a using EReal.rec with
  | bot => exact absurd h' (by simp)
  | coe x => exact ⟨x, rfl⟩
  | top => exact absurd h' (by simp)

/-- The precondition, read entry by entry. -/
theorem finite_of_pre (m : (ℓ : Loc nD τ sig) → Buf (Elt Ideal) ℓ) (h : Cert.Pre_KernelIdeal_finite_scores m) (c : Dev nD) :
    Finite (m ((c.tc : Thread nD τ).loc main_arg0)) (m ((c.tc : Thread nD τ).loc main_arg1)) (m ((c.tc : Thread nD τ).loc main_arg2)) := by
  obtain ⟨h0, h1, h2⟩ := h c
  generalize (m ((c.tc : Thread nD τ).loc main_arg0) : Vec Ideal S4x8192x8704 .f32) = P at *
  generalize (m ((c.tc : Thread nD τ).loc main_arg1) : Vec Ideal S16 .f32) = Sk at *
  generalize (m ((c.tc : Thread nD τ).loc main_arg2) : Vec Ideal S32x16 .f32) = T at *
  generalize (m ((c.tc : Thread nD τ).loc main_arg3) : Vec Ideal S1024x2048 .f32) = G at *
  refine ⟨fun R n hn hn' => ?_, fun k => ?_, fun b k => ?_⟩
  · refine real_of_below _ (Eq.trans ?_ (congrFun h0 (ix3 ⟨R.val / 8192, by omega⟩ ⟨R.val % 8192, by omega⟩ ⟨n.val - 2048, by omega⟩)))
    pointwise [Cert.Pre_finite_scores.fn]
    unfold entry
    exact congrArg (fun x => FloatOps.cmpf (F := Ideal) (φ := .f32) .olt (FloatOps.absf (P (ix3 _ _ x))) _) (Fin.ext (by simp only []; omega))
  · refine real_of_below _ (Eq.trans ?_ (congrFun h1 (ix1 k)))
    rfl
  · refine real_of_below _ (Eq.trans ?_ (congrFun h2 (ix2 b k)))
    rfl

end Cert.KernelIdeal.Attn

end
-- ==== Proof.Attn.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise
public import proofs.«01_k».proof.Proof.AttnFinal
public import proofs.«01_k».proof.Proof.AttnRef
public import proofs.«01_k».proof.Proof.AttnPre

@[expose] public section

set_option maxRecDepth 16384

noncomputable section

open Idealize.ShloMosaic Idealize.ShloMosaic.TcCoe Idealize.SL.Sem
open Idealize.ShloMosaic.Pipeline (Dat)

namespace Cert.Proof.AttnClaims

open Cert.KernelIdeal.Gen Cert.ReferenceIdeal.Gen

/-- The attention: from arguments whose scores are finite the kernel and the reference end with the same two results. -/
theorem algebraic : Cert.algebraic_KernelIdeal_ReferenceIdeal_pre_finite_scores := by
  pair_intro
  · run_from Cert.KernelIdeal.Value.run_blocks m g
  · run_from Cert.ReferenceIdeal.Value.run m' g'
    · obtain ⟨h0, h1, h2, h3⟩ := hagree c
      have hf := Cert.KernelIdeal.Attn.finite_of_pre m hpre c
      rw [Cert.KernelIdeal.Attn.final8 m c _ _ _ rfl rfl rfl hf, Cert.ReferenceIdeal.Attn.res_eq, h0, h1, h2]
      exact Cert.ReferenceIdeal.Attn.out_eq _ _ _ hf
    · obtain ⟨h0, h1, h2, h3⟩ := hagree c
      rw [Cert.KernelIdeal.Attn.final9 m c, ← h3]
      rfl

end Cert.Proof.AttnClaims

end
-- ==== Proof.lean ====
/- The proof of everything the certificate claims: the frames of the twelve programs, the relations between each program and
   its idealized form, and the equalities of the kernels' results with the references'. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.KernelIdeal.Value
public import proofs.«01_k».proof.Proof.Gen.ReferenceIdeal.Run
public import proofs.«01_k».proof.Proof.Gen.InProjIdeal.Value
public import proofs.«01_k».proof.Proof.Gen.InProjRefIdeal.Run
public import proofs.«01_k».proof.Proof.Gen.GluIdeal.Value
public import proofs.«01_k».proof.Proof.Gen.GluRefIdeal.Run
public import proofs.«01_k».proof.Proof.Gen.MergeIdeal.Value
public import proofs.«01_k».proof.Proof.Gen.MergeRefIdeal.Run
public import proofs.«01_k».proof.Proof.Pre
public import proofs.«01_k».proof.Proof.InProj
public import proofs.«01_k».proof.Proof.Merge
public import proofs.«01_k».proof.Proof.Glu
public import proofs.«01_k».proof.Proof.Attn
public import Idealize.ShloMosaic.Adequacy
public import Idealize.ShloMosaic.Init

@[expose] public section

noncomputable section

namespace Cert.Proof

open Idealize.ShloMosaic Idealize.SL.Sem Cert.Kernel

/-- The reference runs, its arguments end unchanged and no counter is left raised. -/
theorem frame_ReferenceIdeal (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2, sem_eq_zero_of_no_sems (by decide) r.2⟩) (Cert.ReferenceIdeal.Value.run (F := Ideal) m ρ)

/-- The reference runs, its arguments end unchanged and no counter is left raised. -/
theorem frame_InProjRefIdeal (m : (ℓ : Loc Cert.InProjRefIdeal.nD Cert.InProjRefIdeal.τ Cert.InProjRefIdeal.sig) → Buf (Elt Ideal) ℓ) (ρ : Dev Cert.InProjRefIdeal.nD → PrngReg) :
    θ_run (Cert.InProjRefIdeal.defs (F := Ideal)) (onTc (τ := Cert.InProjRefIdeal.τ) (Cert.InProjRefIdeal.main (F := Ideal))) ⟨m, fun _ => 0, ρ⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0) :=
  (θ_run _ _ _).mono (fun r h => ⟨fun c => (h c).2, sem_eq_zero_of_no_sems (by decide) r.2⟩) (Cert.InProjRefIdeal.Value.run (F := Ideal) m ρ)

/-- The reference runs, its arguments end unchanged and no counter is left raised. -/
theorem frame_GluRefIdeal (m : (ℓ : Loc Cert.GluRefIdeal.nD Cert.GluRefIdeal.τ Cert.GluRefIdeal.sig) → Buf (Elt Ideal) ℓ) (ρ : Dev Cert.GluRefIdeal.nD → PrngReg) :
    θ_run (Cert.GluRefIdeal.defs (F := Ideal)) (onTc (τ := Cert.GluRefIdeal.τ) (Cert.GluRefIdeal.main (F := Ideal))) ⟨m, fun _ => 0, ρ⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4)
      ∧ r.2.mem ((c.tc : Thread Cert.GluRefIdeal.nD Cert.GluRefIdeal.τ).loc Cert.GluRefIdeal.main_arg5) = m ((c.tc : Thread Cert.GluRefIdeal.nD Cert.GluRefIdeal.τ).loc Cert.GluRefIdeal.main_arg5))
      ∧ r.2.sem = fun _ => 0) :=
  (θ_run _ _ _).mono (fun r h => ⟨fun c => (h c).2.2.2.2, sem_eq_zero_of_no_sems (by decide) r.2⟩) (Cert.GluRefIdeal.Value.run (F := Ideal) m ρ)

/-- The reference runs, its arguments end unchanged and no counter is left raised. -/
theorem frame_MergeRefIdeal (m : (ℓ : Loc Cert.MergeRefIdeal.nD Cert.MergeRefIdeal.τ Cert.MergeRefIdeal.sig) → Buf (Elt Ideal) ℓ) (ρ : Dev Cert.MergeRefIdeal.nD → PrngReg) :
    θ_run (Cert.MergeRefIdeal.defs (F := Ideal)) (onTc (τ := Cert.MergeRefIdeal.τ) (Cert.MergeRefIdeal.main (F := Ideal))) ⟨m, fun _ => 0, ρ⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0) :=
  (θ_run _ _ _).mono (fun r h => ⟨fun c => (h c).2, sem_eq_zero_of_no_sems (by decide) r.2⟩) (Cert.MergeRefIdeal.Value.run (F := Ideal) m ρ)

/-- The two named constants of the attention kernel are read at their names' values. -/
theorem preserves_attention : Cert.preserves_Kernel_KernelIdeal :=
  ⟨IdealRules.named_const.statement _ _ _ _ _ rfl, IdealRules.named_const.statement _ _ _ _ _ rfl⟩

theorem claim : Cert.Claim :=
  ⟨Cert.Kernel.Gen.facts, Cert.KernelIdeal.Gen.facts, Cert.ReferenceIdeal.Gen.facts, Cert.InProj.Gen.facts, Cert.InProjIdeal.Gen.facts, Cert.InProjRefIdeal.Gen.facts, Cert.Glu.Gen.facts, Cert.GluIdeal.Gen.facts, Cert.GluRefIdeal.Gen.facts, Cert.Merge.Gen.facts, Cert.MergeIdeal.Gen.facts, Cert.MergeRefIdeal.Gen.facts, Cert.Pre_finite_scores.facts,
    fun m ρ _ => Cert.Kernel.Gen.frame m ρ,
    fun m ρ _ => Cert.KernelIdeal.Gen.frame m ρ,
    fun m ρ _ => Cert.KernelIdeal.Gen.frame m ρ,
    fun m ρ _ => frame_ReferenceIdeal m ρ,
    fun m ρ _ => frame_ReferenceIdeal m ρ,
    fun m ρ _ => Cert.InProj.Gen.frame m ρ,
    fun m ρ _ => Cert.InProjIdeal.Gen.frame m ρ,
    fun m ρ _ => frame_InProjRefIdeal m ρ,
    fun m ρ _ => Cert.Glu.Gen.frame m ρ,
    fun m ρ _ => Cert.GluIdeal.Gen.frame m ρ,
    fun m ρ _ => frame_GluRefIdeal m ρ,
    fun m ρ _ => Cert.Merge.Gen.frame m ρ,
    fun m ρ _ => Cert.MergeIdeal.Gen.frame m ρ,
    fun m ρ _ => frame_MergeRefIdeal m ρ,
    preserves_attention,
    AttnClaims.algebraic,
    trivial,
    InProjClaims.algebraic,
    trivial,
    GluClaims.algebraic,
    trivial,
    MergeClaims.algebraic⟩

end Cert.Proof

end
